-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "eighth_log2e" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v119) = v2 c
          ∧ r.2.mem ((c.tc : Thread Cert.ReferenceIdeal.nD Cert.ReferenceIdeal.τ).loc Cert.ReferenceIdeal.main_v121) = v3 c
          ∧ r.2.mem ((c.tc : Thread Cert.ReferenceIdeal.nD Cert.ReferenceIdeal.τ).loc Cert.ReferenceIdeal.main_v122) = v4 c
          ∧ r.2.mem ((c.tc : Thread Cert.ReferenceIdeal.nD Cert.ReferenceIdeal.τ).loc Cert.ReferenceIdeal.main_v124) = v5 c
          ∧ r.2.mem ((c.tc : Thread Cert.ReferenceIdeal.nD Cert.ReferenceIdeal.τ).loc Cert.ReferenceIdeal.main_v70) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x512x5120 : Shape := ⟨3, ![3, 512, 5120]⟩
abbrev S3x512x512 : Shape := ⟨3, ![3, 512, 512]⟩
abbrev S_ : Shape := ⟨0, ![]⟩

class Facts : Prop where
  bitsLt_bf16_f32 : FTy.bits .bf16 < FTy.bits .f32
  bcast_S_S3x512x5120 : S_.BroadcastsInDim S3x512x5120 (![] : Fin 0 → Fin S3x512x5120.rank)
  bcast_S_S3x512x512 : S_.BroadcastsInDim S3x512x512 (![] : Fin 0 → Fin S3x512x512.rank)

variable [Facts]

def fn {F : FTy → Type} [FloatOps F] (main_arg0 : FVec F S3x512x5120 .bf16) (main_arg1 : FVec F S3x512x512 .bf16) (main_arg2 : FVec F S3x512x512 .bf16) : IVec S3x512x5120 1 × IVec S3x512x512 1 × IVec S3x512x512 1 :=
  let main_v0 : FVec F S3x512x5120 .f32 := (extf .f32 · bitsLt_bf16_f32) main_arg0
  let main_v1 : FVec F S3x512x5120 .f32 := Host.absf main_v0
  let main_cst : FVec F S_ .f32 := constant S_ .f32 0x7F7F0000#32
  let main_v2 : FVec F S3x512x5120 .f32 := broadcastInDim S3x512x5120 ![] bcast_S_S3x512x5120 main_cst
  let main_v3 : IVec S3x512x5120 1 := cmpf .ole main_v1 main_v2
  let main_v4 : FVec F S3x512x512 .f32 := (extf .f32 · bitsLt_bf16_f32) main_arg1
  let main_v5 : FVec F S3x512x512 .f32 := Host.absf main_v4
  let main_cst_0 : FVec F S_ .f32 := constant S_ .f32 0x7F7F0000#32
  let main_v6 : FVec F S3x512x512 .f32 := broadcastInDim S3x512x512 ![] bcast_S_S3x512x512 main_cst_0
  let main_v7 : IVec S3x512x512 1 := cmpf .ole main_v5 main_v6
  let main_v8 : FVec F S3x512x512 .f32 := (extf .f32 · bitsLt_bf16_f32) main_arg2
  let main_v9 : FVec F S3x512x512 .f32 := Host.absf main_v8
  let main_cst_1 : FVec F S_ .f32 := constant S_ .f32 0x7F7F0000#32
  let main_v10 : FVec F S3x512x512 .f32 := broadcastInDim S3x512x512 ![] bcast_S_S3x512x512 main_cst_1
  let main_v11 : IVec S3x512x512 1 := cmpf .ole main_v9 main_v10
  (main_v3, main_v7, main_v11)
-- ==== Kernel.lean ====
abbrev S3x512x5120 : Shape := ⟨3, ![3, 512, 5120]⟩
abbrev S3x512x512 : Shape := ⟨3, ![3, 512, 512]⟩
abbrev S3x80x64x512 : Shape := ⟨4, ![3, 80, 64, 512]⟩
abbrev S3x80x512 : Shape := ⟨3, ![3, 80, 512]⟩
abbrev S3x8x64x512 : Shape := ⟨4, ![3, 8, 64, 512]⟩
abbrev S3x8x512 : Shape := ⟨3, ![3, 8, 512]⟩
abbrev S3x8x64 : Shape := ⟨3, ![3, 8, 64]⟩
abbrev S1x512x1280 : Shape := ⟨3, ![1, 512, 1280]⟩
abbrev S1x512x128 : Shape := ⟨3, ![1, 512, 128]⟩
abbrev S1x20x64x512 : Shape := ⟨4, ![1, 20, 64, 512]⟩
abbrev S1x80x512 : Shape := ⟨3, ![1, 80, 512]⟩
abbrev S1x2x64x512 : Shape := ⟨4, ![1, 2, 64, 512]⟩
abbrev S1x8x512 : Shape := ⟨3, ![1, 8, 512]⟩
abbrev S1x8x64 : Shape := ⟨3, ![1, 8, 64]⟩
abbrev S2x512x64 : Shape := ⟨3, ![2, 512, 64]⟩
abbrev S2x512x128 : Shape := ⟨3, ![2, 512, 128]⟩
abbrev S20x512 : Shape := ⟨2, ![20, 512]⟩
abbrev S2x2x512x128 : Shape := ⟨4, ![2, 2, 512, 128]⟩
abbrev S2x512x256 : Shape := ⟨3, ![2, 512, 256]⟩
abbrev S512x128 : Shape := ⟨2, ![512, 128]⟩
abbrev S128x512 : Shape := ⟨2, ![128, 512]⟩
abbrev S64x512 : Shape := ⟨2, ![64, 512]⟩
abbrev S512 : Shape := ⟨1, ![512]⟩
abbrev S1x512 : Shape := ⟨2, ![1, 512]⟩
abbrev S1x1x64x512 : Shape := ⟨4, ![1, 1, 64, 512]⟩
abbrev S1x1x512 : Shape := ⟨3, ![1, 1, 512]⟩
abbrev S512x64 : Shape := ⟨2, ![512, 64]⟩
abbrev S1x512x64 : Shape := ⟨3, ![1, 512, 64]⟩
abbrev S128 : Shape := ⟨1, ![128]⟩
abbrev S128x1 : Shape := ⟨2, ![128, 1]⟩
abbrev S1x128 : Shape := ⟨2, ![1, 128]⟩
abbrev S1x64 : Shape := ⟨2, ![1, 64]⟩
abbrev S1x1x64 : Shape := ⟨3, ![1, 1, 64]⟩
abbrev S1x1x64x256 : Shape := ⟨4, ![1, 1, 64, 256]⟩
abbrev S64x256 : Shape := ⟨2, ![64, 256]⟩
abbrev S512x256 : Shape := ⟨2, ![512, 256]⟩
abbrev S1x1x512x128 : Shape := ⟨4, ![1, 1, 512, 128]⟩
abbrev S1x512x256 : Shape := ⟨3, ![1, 512, 256]⟩
abbrev S1x256 : Shape := ⟨2, ![1, 256]⟩
abbrev S128x256 : Shape := ⟨2, ![128, 256]⟩
abbrev S256x128 : Shape := ⟨2, ![256, 128]⟩
abbrev S1x256x128 : Shape := ⟨3, ![1, 256, 128]⟩

abbrev nBuf : Space → Nat
  | .hbm => 10
  | .vmem => 25
  | .smem => 0
  | _ => 0

abbrev bufTy : (tb : Table) → Fin (tcTables nBuf tb) → BufTy
  | .hbm, ⟨0, _⟩ => ⟨S3x512x5120, .bf16⟩
  | .hbm, ⟨1, _⟩ => ⟨S3x512x512, .bf16⟩
  | .hbm, ⟨2, _⟩ => ⟨S3x512x512, .bf16⟩
  | .hbm, ⟨3, _⟩ => ⟨S3x512x5120, .bf16⟩
  | .hbm, ⟨4, _⟩ => ⟨S3x80x64x512, .fp8e4m3⟩
  | .hbm, ⟨5, _⟩ => ⟨S3x80x512, .f32⟩
  | .hbm, ⟨6, _⟩ => ⟨S3x8x64x512, .fp8e4m3⟩
  | .hbm, ⟨7, _⟩ => ⟨S3x8x512, .f32⟩
  | .hbm, ⟨8, _⟩ => ⟨S3x8x64x512, .fp8e4m3⟩
  | .hbm, ⟨9, _⟩ => ⟨S3x8x64, .f32⟩
  | .local _ .vmem, ⟨0, _⟩ => ⟨S1x512x1280, .bf16⟩
  | .local _ .vmem, ⟨1, _⟩ => ⟨S1x512x1280, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x1280, .bf16⟩
  | .local _ .vmem, ⟨7, _⟩ => ⟨S1x512x1280, .bf16⟩
  | .local _ .vmem, ⟨8, _⟩ => ⟨S1x20x64x512, .fp8e4m3⟩
  | .local _ .vmem, ⟨9, _⟩ => ⟨S1x20x64x512, .fp8e4m3⟩
  | .local _ .vmem, ⟨10, _⟩ => ⟨S1x80x512, .f32⟩
  | .local _ .vmem, ⟨11, _⟩ => ⟨S1x80x512, .f32⟩
  | .local _ .vmem, ⟨12, _⟩ => ⟨S1x2x64x512, .fp8e4m3⟩
  | .local _ .vmem, ⟨13, _⟩ => ⟨S1x2x64x512, .fp8e4m3⟩
  | .local _ .vmem, ⟨14, _⟩ => ⟨S1x8x512, .f32⟩
  | .local _ .vmem, ⟨15, _⟩ => ⟨S1x8x512, .f32⟩
  | .local _ .vmem, ⟨16, _⟩ => ⟨S1x2x64x512, .fp8e4m3⟩
  | .local _ .vmem, ⟨17, _⟩ => ⟨S1x2x64x512, .fp8e4m3⟩
  | .local _ .vmem, ⟨18, _⟩ => ⟨S1x8x64, .f32⟩
  | .local _ .vmem, ⟨19, _⟩ => ⟨S1x8x64, .f32⟩
  | .local _ .vmem, ⟨20, _⟩ => ⟨S2x512x64, .fp8e4m3⟩
  | .local _ .vmem, ⟨21, _⟩ => ⟨S2x512x128, .f32⟩
  | .local _ .vmem, ⟨22, _⟩ => ⟨S20x512, .f32⟩
  | .local _ .vmem, ⟨23, _⟩ => ⟨S2x2x512x128, .f32⟩
  | .local _ .vmem, ⟨24, _⟩ => ⟨S2x512x256, .fp8e4m3⟩
  | _, _ => ⟨S3x512x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![3, 4], ![false, false]⟩

def k0_off1 (i : grid0.Coords) (c0_i32_12 : BitVec 32) : Fin 3 → Nat :=
  let c0_13 : Index := 0#32
  let arg1 : BitVec 32 := BitVec.ofNat 32 (i 1).val
  let c2_i32 : BitVec 32 := 2#32
  let v76 : BitVec 32 := Scalar.muli arg1 c2_i32
  let v77 : BitVec 32 := Scalar.addi v76 c0_i32_12
  let v78 : Index := Scalar.indexCast v77
  let c0_14 : Index := 0#32
  ![0, v78.toNat, 0]
def k0_off2 (i : grid0.Coords) (c0_i32_89 : BitVec 32) : Fin 3 → Nat :=
  let c0_90 : Index := 0#32
  let arg1 : BitVec 32 := BitVec.ofNat 32 (i 1).val
  let c2_i32_88 : BitVec 32 := 2#32
  let v312 : BitVec 32 := Scalar.muli arg1 c2_i32_88
  let v313 : BitVec 32 := Scalar.addi v312 c0_i32_89
  let v314 : Index := Scalar.indexCast v313
  let c0_91 : Index := 0#32
  ![0, v314.toNat, 0]
def k0_off3 (i : grid0.Coords) (c0_i32_125 : BitVec 32) : Fin 3 → Nat :=
  let c0_126 : Index := 0#32
  let arg1 : BitVec 32 := BitVec.ofNat 32 (i 1).val
  let c20_i32 : BitVec 32 := 20#32
  let v412 : BitVec 32 := Scalar.muli arg1 c20_i32
  let v413 : BitVec 32 := Scalar.addi v412 c0_i32_125
  let v414 : Index := Scalar.indexCast v413
  let c0_127 : Index := 0#32
  ![0, v414.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x20x64x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x80x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x64x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x64x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "eighth_log2e" => some (((1 / 8) * (Real.log 2)⁻¹ : ℝ) : EReal)
  | _ => none
-- ==== ReferenceIdeal.lean ====
abbrev S3x512x5120 : Shape := ⟨3, ![3, 512, 5120]⟩
abbrev S3x512x512 : Shape := ⟨3, ![3, 512, 512]⟩
abbrev S3x512x80x64 : Shape := ⟨4, ![3, 512, 80, 64]⟩
abbrev S3x512x8x64 : Shape := ⟨4, ![3, 512, 8, 64]⟩
abbrev S_ : Shape := ⟨0, ![]⟩
abbrev S3x512x80 : Shape := ⟨3, ![3, 512, 80]⟩
abbrev S3x512x80x1 : Shape := ⟨4, ![3, 512, 80, 1]⟩
abbrev S3x512x8 : Shape := ⟨3, ![3, 512, 8]⟩
abbrev S3x512x8x1 : Shape := ⟨4, ![3, 512, 8, 1]⟩
abbrev S3x8x64 : Shape := ⟨3, ![3, 8, 64]⟩
abbrev S3x1x8x64 : Shape := ⟨4, ![3, 1, 8, 64]⟩
abbrev S3x512x8x10x64 : Shape := ⟨5, ![3, 512, 8, 10, 64]⟩
abbrev S3x8x512x512x10 : Shape := ⟨5, ![3, 8, 512, 512, 10]⟩
abbrev S3x8x10x512x512 : Shape := ⟨5, ![3, 8, 10, 512, 512]⟩
abbrev S3x512x8x10 : Shape := ⟨4, ![3, 512, 8, 10]⟩
abbrev S3x8x10x512 : Shape := ⟨4, ![3, 8, 10, 512]⟩
abbrev S3x8x10x512x1 : Shape := ⟨5, ![3, 8, 10, 512, 1]⟩
abbrev S3x8x512 : Shape := ⟨3, ![3, 8, 512]⟩
abbrev S3x8x1x1x512 : Shape := ⟨5, ![3, 8, 1, 1, 512]⟩
abbrev S3x8x64x10x512 : Shape := ⟨5, ![3, 8, 64, 10, 512]⟩
abbrev S3x1x8x1x64 : Shape := ⟨5, ![3, 1, 8, 1, 64]⟩
abbrev S3x512x8x10x1 : Shape := ⟨5, ![3, 512, 8, 10, 1]⟩
abbrev S3x80x64x512 : Shape := ⟨4, ![3, 80, 64, 512]⟩
abbrev S3x80x512 : Shape := ⟨3, ![3, 80, 512]⟩
abbrev S3x8x64x512 : Shape := ⟨4, ![3, 8, 64, 512]⟩

abbrev nBuf : Space → Nat
  | .hbm => 162
  | .vmem => 0
  | .smem => 0
  | _ => 0

abbrev hbmTy0_0 (i : Nat) : BufTy := match i % 128 with
  | 0 => ⟨S3x512x5120, .bf16⟩
  | 1 => ⟨S3x512x512, .bf16⟩
  | 2 => ⟨S3x512x512, .bf16⟩
  | 3 => ⟨S3x512x80x64, .bf16⟩
  | 4 => ⟨S3x512x8x64, .bf16⟩
  | 5 => ⟨S3x512x8x64, .bf16⟩
  | 6 => ⟨S3x512x80x64, .f32⟩
  | 7 => ⟨S3x512x80x64, .f32⟩
  | 8 => ⟨S_, .f32⟩
  | 9 => ⟨S3x512x80, .f32⟩
  | 10 => ⟨S_, .f32⟩
  | 11 => ⟨S3x512x80, .f32⟩
  | 12 => ⟨S3x512x80, .f32⟩
  | 13 => ⟨S_, .f32⟩
  | 14 => ⟨S3x512x80, .f32⟩
  | 15 => ⟨S3x512x80, .i1⟩
  | 16 => ⟨S_, .f32⟩
  | 17 => ⟨S3x512x80, .f32⟩
  | 18 => ⟨S3x512x80, .f32⟩
  | 19 => ⟨S_, .f32⟩
  | 20 => ⟨S3x512x80, .f32⟩
  | 21 => ⟨S3x512x80, .f32⟩
  | 22 => ⟨S3x512x80, .f32⟩
  | 23 => ⟨S3x512x80, .f32⟩
  | 24 => ⟨S_, .f32⟩
  | 25 => ⟨S3x512x80, .f32⟩
  | 26 => ⟨S3x512x80, .f32⟩
  | 27 => ⟨S3x512x80, .f32⟩
  | 28 => ⟨S_, .f32⟩
  | 29 => ⟨S3x512x80, .f32⟩
  | 30 => ⟨S3x512x80, .f32⟩
  | 31 => ⟨S3x512x80x1, .f32⟩
  | 32 => ⟨S3x512x80x64, .f32⟩
  | 33 => ⟨S3x512x80x64, .f32⟩
  | 34 => ⟨S_, .f32⟩
  | 35 => ⟨S3x512x80x64, .f32⟩
  | 36 => ⟨S3x512x80x64, .f32⟩
  | 37 => ⟨S_, .f32⟩
  | 38 => ⟨S3x512x80x64, .f32⟩
  | 39 => ⟨S3x512x80x64, .f32⟩
  | 40 => ⟨S3x512x8x64, .f32⟩
  | 41 => ⟨S3x512x8x64, .f32⟩
  | 42 => ⟨S_, .f32⟩
  | 43 => ⟨S3x512x8, .f32⟩
  | 44 => ⟨S_, .f32⟩
  | 45 => ⟨S3x512x8, .f32⟩
  | 46 => ⟨S3x512x8, .f32⟩
  | 47 => ⟨S_, .f32⟩
  | 48 => ⟨S3x512x8, .f32⟩
  | 49 => ⟨S3x512x8, .i1⟩
  | 50 => ⟨S_, .f32⟩
  | 51 => ⟨S3x512x8, .f32⟩
  | 52 => ⟨S3x512x8, .f32⟩
  | 53 => ⟨S_, .f32⟩
  | 54 => ⟨S3x512x8, .f32⟩
  | 55 => ⟨S3x512x8, .f32⟩
  | 56 => ⟨S3x512x8, .f32⟩
  | 57 => ⟨S3x512x8, .f32⟩
  | 58 => ⟨S_, .f32⟩
  | 59 => ⟨S3x512x8, .f32⟩
  | 60 => ⟨S3x512x8, .f32⟩
  | 61 => ⟨S3x512x8, .f32⟩
  | 62 => ⟨S_, .f32⟩
  | 63 => ⟨S3x512x8, .f32⟩
  | 64 => ⟨S3x512x8, .f32⟩
  | 65 => ⟨S3x512x8x1, .f32⟩
  | 66 => ⟨S3x512x8x64, .f32⟩
  | 67 => ⟨S3x512x8x64, .f32⟩
  | 68 => ⟨S_, .f32⟩
  | 69 => ⟨S3x512x8x64, .f32⟩
  | 70 => ⟨S3x512x8x64, .f32⟩
  | 71 => ⟨S_, .f32⟩
  | 72 => ⟨S3x512x8x64, .f32⟩
  | 73 => ⟨S3x512x8x64, .f32⟩
  | 74 => ⟨S3x512x8x64, .f32⟩
  | 75 => ⟨S3x512x8x64, .f32⟩
  | 76 => ⟨S_, .f32⟩
  | 77 => ⟨S3x8x64, .f32⟩
  | 78 => ⟨S_, .f32⟩
  | 79 => ⟨S3x8x64, .f32⟩
  | 80 => ⟨S3x8x64, .f32⟩
  | 81 => ⟨S_, .f32⟩
  | 82 => ⟨S3x8x64, .f32⟩
  | 83 => ⟨S3x8x64, .i1⟩
  | 84 => ⟨S_, .f32⟩
  | 85 => ⟨S3x8x64, .f32⟩
  | 86 => ⟨S3x8x64, .f32⟩
  | 87 => ⟨S_, .f32⟩
  | 88 => ⟨S3x8x64, .f32⟩
  | 89 => ⟨S3x8x64, .f32⟩
  | 90 => ⟨S3x8x64, .f32⟩
  | 91 => ⟨S3x8x64, .f32⟩
  | 92 => ⟨S_, .f32⟩
  | 93 => ⟨S3x8x64, .f32⟩
  | 94 => ⟨S3x8x64, .f32⟩
  | 95 => ⟨S3x8x64, .f32⟩
  | 96 => ⟨S_, .f32⟩
  | 97 => ⟨S3x8x64, .f32⟩
  | 98 => ⟨S3x8x64, .f32⟩
  | 99 => ⟨S3x1x8x64, .f32⟩
  | 100 => ⟨S3x512x8x64, .f32⟩
  | 101 => ⟨S3x512x8x64, .f32⟩
  | 102 => ⟨S_, .f32⟩
  | 103 => ⟨S3x512x8x64, .f32⟩
  | 104 => ⟨S3x512x8x64, .f32⟩
  | 105 => ⟨S_, .f32⟩
  | 106 => ⟨S3x512x8x64, .f32⟩
  | 107 => ⟨S3x512x8x64, .f32⟩
  | 108 => ⟨S3x512x8x10x64, .f32⟩
  | 109 => ⟨S3x8x512x512x10, .f32⟩
  | 110 => ⟨S3x8x10x512x512, .f32⟩
  | 111 => ⟨S3x512x8x10, .f32⟩
  | 112 => ⟨S3x8x10x512, .f32⟩
  | 113 => ⟨S3x8x10x512x1, .f32⟩
  | 114 => ⟨S3x8x512, .f32⟩
  | 115 => ⟨S3x8x1x1x512, .f32⟩
  | 116 => ⟨S3x8x10x512x512, .f32⟩
  | 117 => ⟨S3x8x10x512x512, .f32⟩
  | 118 => ⟨S3x8x10x512x512, .f32⟩
  | 119 => ⟨S3x8x10x512x512, .f32⟩
  | 120 => ⟨S_, .f32⟩
  | 121 => ⟨S3x8x10x512x512, .f32⟩
  | 122 => ⟨S3x8x10x512x512, .f32⟩
  | 123 => ⟨S_, .f32⟩
  | 124 => ⟨S3x8x10x512, .f32⟩
  | 125 => ⟨S3x8x10x512x1, .f32⟩
  | 126 => ⟨S3x8x10x512x512, .f32⟩
  | 127 => ⟨S3x8x10x512x512, .f32⟩
  | _ => ⟨S3x512x5120, .bf16⟩

abbrev hbmTy0_1 (i : Nat) : BufTy := match i % 128 with
  | 0 => ⟨S3x8x10x512x512, .f32⟩
  | 1 => ⟨S_, .f32⟩
  | 2 => ⟨S3x8x10x512, .f32⟩
  | 3 => ⟨S_, .f32⟩
  | 4 => ⟨S3x8x10x512x512, .f32⟩
  | 5 => ⟨S3x8x10x512x512, .f32⟩
  | 6 => ⟨S_, .f32⟩
  | 7 => ⟨S3x8x10x512x512, .f32⟩
  | 8 => ⟨S3x8x10x512x512, .f32⟩
  | 9 => ⟨S_, .f32⟩
  | 10 => ⟨S3x8x10x512x512, .f32⟩
  | 11 => ⟨S3x8x10x512x512, .f32⟩
  | 12 => ⟨S3x8x64x10x512, .f32⟩
  | 13 => ⟨S3x512x8x10x64, .f32⟩
  | 14 => ⟨S_, .f32⟩
  | 15 => ⟨S3x8x64, .f32⟩
  | 16 => ⟨S3x8x64, .f32⟩
  | 17 => ⟨S3x1x8x1x64, .f32⟩
  | 18 => ⟨S3x512x8x10x64, .f32⟩
  | 19 => ⟨S3x512x8x10x64, .f32⟩
  | 20 => ⟨S3x512x8x10, .f32⟩
  | 21 => ⟨S3x512x8x10x1, .f32⟩
  | 22 => ⟨S3x512x8x10x64, .f32⟩
  | 23 => ⟨S3x512x8x10x64, .f32⟩
  | 24 => ⟨S3x512x5120, .f32⟩
  | 25 => ⟨S3x512x5120, .bf16⟩
  | 26 => ⟨S3x80x64x512, .f32⟩
  | 27 => ⟨S3x80x64x512, .fp8e4m3⟩
  | 28 => ⟨S3x80x512, .f32⟩
  | 29 => ⟨S3x8x64x512, .f32⟩
  | 30 => ⟨S3x8x64x512, .fp8e4m3⟩
  | 31 => ⟨S3x8x512, .f32⟩
  | 32 => ⟨S3x8x64x512, .f32⟩
  | 33 => ⟨S3x8x64x512, .fp8e4m3⟩
  | _ => ⟨S3x512x5120, .bf16⟩

abbrev hbmTy (i : Nat) : BufTy := match i / 128 with
  | 0 => hbmTy0_0 i
  | 1 => hbmTy0_1 i
  | _ => ⟨S3x512x5120, .bf16⟩

abbrev bufTy : (tb : Table) → Fin (tcTables nBuf tb) → BufTy
  | .hbm, ⟨i, _⟩ => hbmTy i
  | _, _ => ⟨S3x512x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_v32 : Ref sig .tc := ⟨.hbm, 46, rfl⟩
abbrev main_cst_10 : Ref sig .tc := ⟨.hbm, 47, rfl⟩
abbrev main_v33 : Ref sig .tc := ⟨.hbm, 48, rfl⟩
abbrev main_v34 : Ref sig .tc := ⟨.hbm, 49, rfl⟩
abbrev main_cst_11 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_15 : Ref sig .tc := ⟨.hbm, 68, rfl⟩
abbrev main_v49 : Ref sig .tc := ⟨.hbm, 69, rfl⟩
abbrev main_v50 : Ref sig .tc := ⟨.hbm, 70, rfl⟩
abbrev main_cst_16 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_17 : Ref sig .tc := ⟨.hbm, 76, rfl⟩
abbrev main_v55 : Ref sig .tc := ⟨.hbm, 77, rfl⟩
abbrev main_cst_18 : Ref sig .tc := ⟨.hbm, 78, rfl⟩
abbrev main_v56 : Ref sig .tc := ⟨.hbm, 79, rfl⟩
abbrev main_v57 : Ref sig .tc := ⟨.hbm, 80, rfl⟩
abbrev main_cst_19 : Ref sig .tc := ⟨.hbm, 81, rfl⟩
abbrev main_v58 : Ref sig .tc := ⟨.hbm, 82, rfl⟩
abbrev main_v59 : Ref sig .tc := ⟨.hbm, 83, rfl⟩
abbrev main_cst_20 : Ref sig .tc := ⟨.hbm, 84, rfl⟩
abbrev main_v60 : Ref sig .tc := ⟨.hbm, 85, rfl⟩
abbrev main_v61 : Ref sig .tc := ⟨.hbm, 86, rfl⟩
abbrev main_cst_21 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_22 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_23 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_24 : Ref sig .tc := ⟨.hbm, 102, rfl⟩
abbrev main_v74 : Ref sig .tc := ⟨.hbm, 103, rfl⟩
abbrev main_v75 : Ref sig .tc := ⟨.hbm, 104, rfl⟩
abbrev main_cst_25 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_26 : Ref sig .tc := ⟨.hbm, 120, rfl⟩
abbrev main_v90 : Ref sig .tc := ⟨.hbm, 121, rfl⟩
abbrev main_v91 : Ref sig .tc := ⟨.hbm, 122, rfl⟩
abbrev main_cst_27 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_28 : Ref sig .tc := ⟨.hbm, 129, rfl⟩
abbrev main_v97 : Ref sig .tc := ⟨.hbm, 130, rfl⟩
abbrev main_cst_29 : Ref sig .tc := ⟨.hbm, 131, rfl⟩
abbrev main_v98 : Ref sig .tc := ⟨.hbm, 132, rfl⟩
abbrev main_v99 : Ref sig .tc := ⟨.hbm, 133, rfl⟩
abbrev main_cst_30 : Ref sig .tc := ⟨.hbm, 134, rfl⟩
abbrev main_v100 : Ref sig .tc := ⟨.hbm, 135, rfl⟩
abbrev main_v101 : Ref sig .tc := ⟨.hbm, 136, rfl⟩
abbrev main_cst_31 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_32 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩

abbrev nD : Nat := 1
abbrev τ : Topo := Topo.v7x

variable {F : FTy → Type} [FloatOps F]

def κ : String → Option EReal := fun
  | "eighth_log2e" => some (((1 / 8) * (Real.log 2)⁻¹ : ℝ) : EReal)
  | _ => none
-- ==== Proof.KRun.lean ====
/- The kernel of the program, run once on any buffers: it ends, the inputs as they were, the outputs at some contents. -/
module

public import proofs.«01_k».proof.Proof.Gen.Kernel.Skeleton
public import proofs.«01_k».proof.Proof.Gen.Kernel.Frame

@[expose] public section

set_option maxRecDepth 16384

noncomputable section

namespace Cert.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- A run that leaves the pipeline's input arrays as the region found them leaves the three arguments unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x512x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1280 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x20x64x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x80x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x64x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x64x512 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x64 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2x512x64 .fp8e4m3 := Memref.whole cc0_scratch0
abbrev scM0_1 : Memref sig .tc .vmem S2x512x128 .f32 := Memref.whole cc0_scratch1
abbrev scM0_2 : Memref sig .tc .vmem S20x512 .f32 := Memref.whole cc0_scratch2
abbrev scM0_3 : Memref sig .tc .vmem S2x2x512x128 .f32 := Memref.whole cc0_scratch3
abbrev scM0_4 : Memref sig .tc .vmem S2x512x256 .fp8e4m3 := Memref.whole cc0_scratch4

/-- The invariant between points: each scratch buffer owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

-- (the run's proof term is large: checking it walks past the default budget)
set_option maxHeartbeats 6912000 in
/-- The body's triple: on whole buffers, the inputs' at their contents and the others' at anything, the body runs to its
    end, the inputs' buffers as they were and the others' at some contents. -/
theorem kernelRun0_A (c : Dev nD) (i : grid0.Coords) (arg2 : Memref sig .tc .vmem S1x512x1280 .bf16) (harg2 : arg2.IsWhole) (arg3 : Memref sig .tc .vmem S1x512x128 .bf16) (harg3 : arg3.IsWhole) (arg4 : Memref sig .tc .vmem S1x512x128 .bf16) (harg4 : arg4.IsWhole) (arg5 : Memref sig .tc .vmem S1x512x1280 .bf16) (harg5 : arg5.IsWhole) (arg6 : Memref sig .tc .vmem S1x20x64x512 .fp8e4m3) (harg6 : arg6.IsWhole) (arg7 : Memref sig .tc .vmem S1x80x512 .f32) (harg7 : arg7.IsWhole) (arg8 : Memref sig .tc .vmem S1x2x64x512 .fp8e4m3) (harg8 : arg8.IsWhole) (arg9 : Memref sig .tc .vmem S1x8x512 .f32) (harg9 : arg9.IsWhole) (arg10 : Memref sig .tc .vmem S1x2x64x512 .fp8e4m3) (harg10 : arg10.IsWhole) (arg11 : Memref sig .tc .vmem S1x8x64 .f32) (harg11 : arg11.IsWhole) (arg12 : Memref sig .tc .vmem S2x512x64 .fp8e4m3) (harg12 : arg12.IsWhole) (arg13 : Memref sig .tc .vmem S2x512x128 .f32) (harg13 : arg13.IsWhole) (arg14 : Memref sig .tc .vmem S20x512 .f32) (harg14 : arg14.IsWhole) (arg15 : Memref sig .tc .vmem S2x2x512x128 .f32) (harg15 : arg15.IsWhole) (arg16 : Memref sig .tc .vmem S2x512x256 .fp8e4m3) (harg16 : arg16.IsWhole)
    (x0 : Vec F S1x512x1280 .bf16) (x1 : Vec F S1x512x128 .bf16) (x2 : Vec F S1x512x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_gqa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_gqa_fp8_eq_skeleton]; unfold cc0_gqa_fp8_skel
    simp only [k0_part142_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part143_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part144_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.K

end
-- ==== Proof.KFrame.lean ====
/- The frame of the program: it runs to its end, its arguments unchanged and every counter at zero, over any numbers. -/
module

public import proofs.«01_k».proof.Proof.KRun
public import Idealize.ShloMosaic.Lib.Claim

@[expose] public section

set_option maxRecDepth 16384

noncomputable section

namespace Cert.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows (3 to 9), of whose contents the frame states nothing. -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs unnamed; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 1200000 in
/-- The body at any point: the inputs' buffers hold their blocks, and the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The launch: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values, from any memory with zero counters: the program runs to its end, every input array of the pipeline
    unchanged and every buffer outside the pipeline at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The frame: the argument arrays end unchanged, every counter at zero, over any numbers. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.K

end
-- ==== Proof.Run.lean ====
/- The kernel body of the idealized program, run symbolically once on any buffers: the pieces it stores in each. -/
module

public import proofs.«01_k».proof.Proof.Gen.KernelIdeal.Frame
public import proofs.«01_k».proof.Proof.Gen.KernelIdeal.Skeleton

@[expose] public section

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The kernel body's triple, on any whole staging memrefs, by symbolic execution of the whole body: the inputs are
    left as found; each buffer ends with the listed pieces written.  The three per-batch scale windows start from any
    contents `x5`, `x7`, `x9` and keep them outside the pieces. -/
def kernelRun (c : Dev nD) (i : grid0.Coords) (arg2 : Memref sig .tc .vmem S1x512x1280 .bf16) (harg2 : arg2.IsWhole) (arg3 : Memref sig .tc .vmem S1x512x128 .bf16) (harg3 : arg3.IsWhole) (arg4 : Memref sig .tc .vmem S1x512x128 .bf16) (harg4 : arg4.IsWhole) (arg5 : Memref sig .tc .vmem S1x512x1280 .bf16) (harg5 : arg5.IsWhole) (arg6 : Memref sig .tc .vmem S1x20x64x512 .fp8e4m3) (harg6 : arg6.IsWhole) (arg7 : Memref sig .tc .vmem S1x80x512 .f32) (harg7 : arg7.IsWhole) (arg8 : Memref sig .tc .vmem S1x2x64x512 .fp8e4m3) (harg8 : arg8.IsWhole) (arg9 : Memref sig .tc .vmem S1x8x512 .f32) (harg9 : arg9.IsWhole) (arg10 : Memref sig .tc .vmem S1x2x64x512 .fp8e4m3) (harg10 : arg10.IsWhole) (arg11 : Memref sig .tc .vmem S1x8x64 .f32) (harg11 : arg11.IsWhole) (arg12 : Memref sig .tc .vmem S2x512x64 .fp8e4m3) (harg12 : arg12.IsWhole) (arg13 : Memref sig .tc .vmem S2x512x128 .f32) (harg13 : arg13.IsWhole) (arg14 : Memref sig .tc .vmem S20x512 .f32) (harg14 : arg14.IsWhole) (arg15 : Memref sig .tc .vmem S2x2x512x128 .f32) (harg15 : arg15.IsWhole) (arg16 : Memref sig .tc .vmem S2x512x256 .fp8e4m3) (harg16 : arg16.IsWhole)
    (x0 : Vec F S1x512x1280 .bf16) (x1 : Vec F S1x512x128 .bf16) (x2 : Vec F S1x512x128 .bf16) :
    Σ' (L3 : List (View.Piece (Elt F) S1x512x1280 .bf16)), Σ' (L4 : List (View.Piece (Elt F) S1x20x64x512 .fp8e4m3)), Σ' (L5 : List (View.Piece (Elt F) S1x80x512 .f32)), Σ' (L6 : List (View.Piece (Elt F) S1x2x64x512 .fp8e4m3)), Σ' (L7 : List (View.Piece (Elt F) S1x8x512 .f32)), Σ' (L8 : List (View.Piece (Elt F) S1x2x64x512 .fp8e4m3)), Σ' (L9 : List (View.Piece (Elt F) S1x8x64 .f32)), Σ' (LT0 : List (View.Piece (Elt F) S2x512x64 .fp8e4m3)), Σ' (LT1 : List (View.Piece (Elt F) S2x512x128 .f32)), Σ' (LT2 : List (View.Piece (Elt F) S20x512 .f32)), Σ' (LT3 : List (View.Piece (Elt F) S2x2x512x128 .f32)), { LT4 : List (View.Piece (Elt F) S2x512x256 .fp8e4m3) //
      ∀ (x5 : Vec F S1x80x512 .f32) (x7 : Vec F S1x8x512 .f32) (x9 : Vec F S1x8x64 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare x5 ∗ (∃ d, owns (c : Thread nD τ) arg8 fullShare d) ∗ owns (c : Thread nD τ) arg9 fullShare x7 ∗ (∃ d, owns (c : Thread nD τ) arg10 fullShare d) ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (arg7.view.loc (c : Thread nD τ) ↦[arg7.view.set]{fullShare} arg7.view.writes (Elt F) (harg7.unread x5) L5) ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread x7) L7) ∗ (∃ f, arg10.view.loc (c : Thread nD τ) ↦[arg10.view.set]{fullShare} arg10.view.writes (Elt F) f L8) ∗ (arg11.view.loc (c : Thread nD τ) ↦[arg11.view.set]{fullShare} arg11.view.writes (Elt F) (harg11.unread x9) L9) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (∃ f, arg15.view.loc (c : Thread nD τ) ↦[arg15.view.set]{fullShare} arg15.view.writes (Elt F) f LT3) ∗ (∃ f, arg16.view.loc (c : Thread nD τ) ↦[arg16.view.set]{fullShare} arg16.view.writes (Elt F) f LT4)) -∗ K ⟨⟩))
          ⊢ wp frame (wpE (defs₀ (F := F)) Variants.none c none) E (cc0_gqa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, ?_, ?_, ?_, fun x5 x7 x9 E K => ?run⟩
  case run =>
    simp only [cc0_gqa_fp8_eq_skeleton]; unfold cc0_gqa_fp8_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%d6, %f6, -, H6⟩, ⟨%f7, %hf7, H7⟩, ⟨%d8, %f8, -, H8⟩, ⟨%f9, %hf9, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    obtain rfl := harg7.eq_unread hf5; obtain rfl := harg9.eq_unread hf7; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexact H5
    isplitl [H6]; · iexists _; iexact H6
    isplitl [H7]; · iexact H7
    isplitl [H8]; · iexists _; iexact H8
    isplitl [H9]; · iexact H9
    isplitl [HS0]; · iexists _; iexact HS0
    isplitl [HS1]; · iexists _; iexact HS1
    isplitl [HS2]; · iexists _; iexact HS2
    isplitl [HS3]; · iexists _; iexact HS3
    iexists _; iexact HS4

end Cert.KI

end
-- ==== Proof.Model.lean ====
/- What the kernel body computes, as functions of the head, the unit of work and the lane tile, over any numbers. -/
module

public import proofs.«01_k».proof.Proof.Gen.KernelIdeal.Frame
public import proofs.«01_k».proof.Proof.Gen.KernelIdeal.Skeleton

@[expose] public section

noncomputable section

namespace Cert.KI

open Cert.KernelIdeal Cert.KernelIdeal.Gen
open Idealize.ShloMosaic Idealize.ShloMosaic.TcCoe Idealize.ShloMosaic.Tactic

variable {F : FTy → Type} [FloatOps F] [Named F]

/-! # The body as functions of the head, the unit and the lane tile

What the body stores, written once for every head `h`, unit `u` (a head and a half of the queries) and lane tile:
the stored pieces of each buffer are lists over these. -/

/-- One step of the exponent search: the bit stays set where the power of two it spells is not above `r`. -/
def expStep {s : Shape} (r : FVec F s .f32) (b : BitVec 32) (ef : IVec s 32) : IVec s 32 :=
  select (cmpf .olt r (bitcastToFloat .f32 (addi ef (broadcast s b)))) ef (addi ef (broadcast s b))

/-- The exponent field of `r`, bit by bit from the top. -/
def expField {s : Shape} (r : FVec F s .f32) : IVec s 32 :=
  expStep r 8388608#32 (expStep r 16777216#32 (expStep r 33554432#32 (expStep r 67108864#32
    (expStep r 134217728#32 (expStep r 268435456#32 (expStep r 536870912#32 (expStep r 1073741824#32 (broadcast s 0#32))))))))

/-- The scale of an absolute maximum, its exponent field given. -/
def scaleV {s : Shape} (ef : IVec s 32) : FVec F s .f32 :=
  bitcastToFloat .f32 (select (cmpi .eq ef (broadcast s 0#32)) (broadcast s 1065353216#32) (addi ef (broadcast s 8388608#32)))

/-- The inverse of the scale. -/
def invV {s : Shape} (ef : IVec s 32) : FVec F s .f32 :=
  bitcastToFloat .f32 (select (cmpi .eq ef (broadcast s 0#32)) (broadcast s 1065353216#32) (subi (broadcast s 2122317824#32) ef))

/-- An absolute maximum over 448. -/
def ratio {s : Shape} (a : FVec F s .f32) : FVec F s .f32 := mulf a (broadcast s (Scalar.ofBits .f32 0x3B124925#32))

/-- The clip to ±448. -/
def clip448 {s : Shape} (z : FVec F s .bf16) : FVec F s .bf16 :=
  minimumf (broadcast s (Scalar.truncf .bf16 bitsLt_bf16_f32 (Scalar.ofBits .f32 0x43E00000#32)))
    (maximumf (broadcast s (Scalar.truncf .bf16 bitsLt_bf16_f32 (Scalar.ofBits .f32 0xC3E00000#32))) z)

/-- The exponent fields of one head's rows (a head transposed: its 64 features by the 512 rows). -/
def headEf (v : FVec F S64x512 .bf16) : IVec S1x512 32 :=
  expField (ratio (extf .f32 (shapeCast S1x512 (multiReduction .maximumf [0] S512 (absf v) 0xFF80#16 reduces_S64x512_S512 (.inr rfl) rfl) shapeCasts_S512_S1x512) bitsLt_bf16_f32))

/-- The codes of one head, transposed, before the cast. -/
def headCodes (v : FVec F S64x512 .bf16) : FVec F S64x512 .bf16 :=
  clip448 (mulf v (broadcastTo S64x512 (truncf .bf16 (invV (F := F) (headEf v)) bitsLt_bf16_f32) broadcasts_S1x512_S64x512))

theorem slices_head (h : ℕ) : S128x512.Slices ![64 * (h % 2), 0] S64x512 := by
  rcases Nat.mod_two_eq_zero_or_one h with e | e <;> rw [e]
  · exact slices_S128x512_o0_0_S64x512
  · exact slices_S128x512_o64_0_S64x512

theorem inb_pair (h : ℕ) : ∀ a, (![0, 0, 128 * (h % 20 / 2)] : Fin 3 → ℕ) a + S1x512x128.size a ≤ S1x512x1280.size a := by
  intro a; fin_cases a <;> simp [S1x512x128, S1x512x1280] <;> omega

section
variable (arg2 : Memref sig .tc .vmem S1x512x1280 .bf16) (harg2 : arg2.IsWhole)
  (arg3 : Memref sig .tc .vmem S1x512x128 .bf16) (harg3 : arg3.IsWhole)
  (arg4 : Memref sig .tc .vmem S1x512x128 .bf16) (harg4 : arg4.IsWhole)
  (arg6 : Memref sig .tc .vmem S1x20x64x512 .fp8e4m3) (arg10 : Memref sig .tc .vmem S1x2x64x512 .fp8e4m3)
  (arg12 : Memref sig .tc .vmem S2x512x64 .fp8e4m3) (arg13 : Memref sig .tc .vmem S2x512x128 .f32)
  (arg14 : Memref sig .tc .vmem S20x512 .f32) (arg15 : Memref sig .tc .vmem S2x2x512x128 .f32)
  (arg16 : Memref sig .tc .vmem S2x512x256 .fp8e4m3)
  (x0 : Vec F S1x512x1280 .bf16) (x1 : Vec F S1x512x128 .bf16) (x2 : Vec F S1x512x128 .bf16)

/-! ## Queries -/

/-- Query head `h` of the block, transposed. -/
def qHead (h : ℕ) : FVec F S64x512 .bf16 :=
  extractStridedSlice S64x512 ![64 * (h % 2), 0]
    (transpose S128x512 [1, 0] (shapeCast S512x128 (View.readAt (Elt F) arg2.view
      (Rect.unit (s := S1x512x1280) ![0, 0, 128 * (h % 20 / 2)] S1x512x128.size (inb_pair h)).toLoadRect (harg2.unread x0)) shapeCasts_S1x512x128_S512x128)
      transposes_S512x128_p1_0_S128x512) (slices_head h)

/-- The query codes stored for the first `n` heads. -/
def qPieces (n : ℕ) : List (View.Piece (Elt F) S1x20x64x512 .fp8e4m3) :=
  Nat.rec [] (fun n L => ⟨Rect.unit ![0, n % 20, 0, 0] S1x1x64x512.size (by intro a; fin_cases a <;> simp [S1x1x64x512, S1x20x64x512]; omega),
      shapeCast S1x1x64x512 (truncf .fp8e4m3 (headCodes (qHead arg2 harg2 x0 n)) bitsLt_fp8e4m3_bf16) shapeCasts_S64x512_S1x1x64x512⟩ :: L) n

/-- The logit factors stored for the first `n` heads. -/
def cPieces (n : ℕ) : List (View.Piece (Elt F) S20x512 .f32) :=
  Nat.rec [] (fun n L => ⟨Rect.unit ![n % 20, 0] S1x512.size (by intro a; fin_cases a <;> simp [S1x512, S20x512]; omega),
      shapeCast S1x512 (mulf (scaleV (F := F) (headEf (qHead arg2 harg2 x0 n))) (broadcast S1x512 (Named.named κ "eighth_log2e" 0x3E38AA3B#32))) shapeCasts_S1x512_S1x512⟩ :: L) n

/-- The query scales' payload for head `h`. -/
def qScalePay (h : ℕ) : FVec F S1x1x512 .f32 :=
  shapeCast S1x1x512 (scaleV (F := F) (headEf (qHead arg2 harg2 x0 h))) shapeCasts_S1x512_S1x1x512

/-- The query scales stored for the first `n` heads, at rows of the whole batch's scales. -/
def qsPieces (i : grid0.Coords) (n : ℕ) : List (View.Piece (Elt F) S1x80x512 .f32) :=
  Nat.rec [] (fun n L => ⟨Rect.unit (k0_off3 i (BitVec.ofNat 32 (Fin.ofNat 20 n).val)) S1x1x512.size (k0_off3_inb i (Fin.ofNat 20 n)), qScalePay arg2 harg2 x0 n⟩ :: L) n

/-! ## Keys -/

/-- Key head `e` of the pair, transposed. -/
def kHead (e : ℕ) : FVec F S64x512 .bf16 :=
  extractStridedSlice S64x512 ![64 * (e % 2), 0]
    (transpose S128x512 [1, 0] (shapeCast S512x128 (View.readAt (Elt F) arg3.view
      (Rect.unit (s := S1x512x128) ![0, 0, 0] S1x512x128.size inb_S1x512x128_S1x512x128_0_0_0).toLoadRect (harg3.unread x1)) shapeCasts_S1x512x128_S512x128)
      transposes_S512x128_p1_0_S128x512) (slices_head e)

/-- The key codes' payload. -/
def kcPay (e : ℕ) : FVec F S1x1x64x512 .fp8e4m3 :=
  shapeCast S1x1x64x512 (truncf .fp8e4m3 (headCodes (kHead arg3 harg3 x1 e)) bitsLt_fp8e4m3_bf16) shapeCasts_S64x512_S1x1x64x512

/-- The key scales' payload. -/
def ksPay (e : ℕ) : FVec F S1x1x512 .f32 :=
  shapeCast S1x1x512 (scaleV (F := F) (headEf (kHead arg3 harg3 x1 e))) shapeCasts_S1x512_S1x1x512

/-- The key codes stored. -/
def kcPieces : List (View.Piece (Elt F) S1x2x64x512 .fp8e4m3) :=
  [⟨Rect.unit ![0, 1, 0, 0] S1x1x64x512.size inb_S1x2x64x512_S1x1x64x512_0_1_0_0, kcPay arg3 harg3 x1 1⟩,
   ⟨Rect.unit ![0, 0, 0, 0] S1x1x64x512.size inb_S1x2x64x512_S1x1x64x512_0_0_0_0, kcPay arg3 harg3 x1 0⟩]

/-- The key scales stored, at rows of the whole batch's scales. -/
def ksPieces (i : grid0.Coords) : List (View.Piece (Elt F) S1x8x512 .f32) :=
  [⟨Rect.unit (k0_off1 i (BitVec.ofNat 32 (1 : Fin 2).val)) S1x1x512.size (k0_off1_inb i 1), ksPay arg3 harg3 x1 1⟩,
   ⟨Rect.unit (k0_off1 i (BitVec.ofNat 32 (0 : Fin 2).val)) S1x1x512.size (k0_off1_inb i 0), ksPay arg3 harg3 x1 0⟩]

/-- Both key heads' codes, one row per key. -/
def knAll : FVec F S512x128 .bf16 :=
  transpose S512x128 [1, 0] (concatenate S128x512 0 [⟨S64x512, headCodes (kHead arg3 harg3 x1 0)⟩, ⟨S64x512, headCodes (kHead arg3 harg3 x1 1)⟩]
    concatenates_S64x512_S64x512_S128x512_d0) transposes_S128x512_p1_0_S512x128

/-- The key codes kept for the scores. -/
def knPieces : List (View.Piece (Elt F) S2x512x64 .fp8e4m3) :=
  [⟨Rect.unit ![1, 0, 0] S1x512x64.size inb_S2x512x64_S1x512x64_1_0_0, shapeCast S1x512x64 (truncf .fp8e4m3
      (extractStridedSlice S512x64 ![0, 64] (knAll arg3 harg3 x1) slices_S512x128_o0_64_S512x64) bitsLt_fp8e4m3_bf16) shapeCasts_S512x64_S1x512x64⟩,
   ⟨Rect.unit ![0, 0, 0] S1x512x64.size inb_S2x512x64_S1x512x64_0_0_0, shapeCast S1x512x64 (truncf .fp8e4m3
      (extractStridedSlice S512x64 ![0, 0] (knAll arg3 harg3 x1) slices_S512x128_o0_0_S512x64) bitsLt_fp8e4m3_bf16) shapeCasts_S512x64_S1x512x64⟩]

/-- One key head's scales, one row per key, on every lane. -/
def kcolPay (e : ℕ) : FVec F S1x512x128 .f32 :=
  shapeCast S1x512x128 (transpose S512x128 [1, 0] (broadcastTo S128x512 (shapeCast S1x512 (scaleV (F := F) (headEf (kHead arg3 harg3 x1 e))) shapeCasts_S1x512_S1x512)
    broadcasts_S1x512_S128x512) transposes_S128x512_p1_0_S512x128) shapeCasts_S512x128_S1x512x128

/-- The key scales kept for the scores. -/
def kcolPieces : List (View.Piece (Elt F) S2x512x128 .f32) :=
  [⟨Rect.unit ![1, 0, 0] S1x512x128.size inb_S2x512x128_S1x512x128_1_0_0, kcolPay arg3 harg3 x1 1⟩,
   ⟨Rect.unit ![0, 0, 0] S1x512x128.size inb_S2x512x128_S1x512x128_0_0_0, kcolPay arg3 harg3 x1 0⟩]

/-! ## Values -/

/-- The pair of value heads. -/
def vIn : FVec F S512x128 .bf16 :=
  shapeCast S512x128 (View.readAt (Elt F) arg4.view
      (Rect.unit (s := S1x512x128) ![0, 0, 0] S1x512x128.size inb_S1x512x128_S1x512x128_0_0_0).toLoadRect (harg4.unread x2)) shapeCasts_S1x512x128_S512x128

/-- The value codes of both heads, one row per feature. -/
def vCodes : FVec F S128x512 .bf16 :=
  clip448 (mulf (transpose S128x512 [1, 0] (vIn arg4 harg4 x2) transposes_S512x128_p1_0_S128x512)
    (truncf .bf16 (broadcastTo S128x512 (shapeCast S128x1 (invV (F := F) (expField (ratio (shapeCast S128x1 (multiReduction .maximumf [1] S128
      (extf .f32 (absf (transpose S128x512 [1, 0] (vIn arg4 harg4 x2) transposes_S512x128_p1_0_S128x512)) bitsLt_bf16_f32) 0xFF800000#32 reduces_S128x512_S128 (.inl rfl) rfl)
      shapeCasts_S128_S128x1)))) shapeCasts_S128x1_S128x1) broadcasts_S128x1_S128x512) bitsLt_bf16_f32))

/-- The value codes stored. -/
def vcPieces : List (View.Piece (Elt F) S1x2x64x512 .fp8e4m3) :=
  [⟨Rect.unit ![0, 1, 0, 0] S1x1x64x512.size inb_S1x2x64x512_S1x1x64x512_0_1_0_0, shapeCast S1x1x64x512 (truncf .fp8e4m3
      (extractStridedSlice S64x512 ![64, 0] (vCodes arg4 harg4 x2) slices_S128x512_o64_0_S64x512) bitsLt_fp8e4m3_bf16) shapeCasts_S64x512_S1x1x64x512⟩,
   ⟨Rect.unit ![0, 0, 0, 0] S1x1x64x512.size inb_S1x2x64x512_S1x1x64x512_0_0_0_0, shapeCast S1x1x64x512 (truncf .fp8e4m3
      (extractStridedSlice S64x512 ![0, 0] (vCodes arg4 harg4 x2) slices_S128x512_o0_0_S64x512) bitsLt_fp8e4m3_bf16) shapeCasts_S64x512_S1x1x64x512⟩]

/-- The value scales of both heads, as a row. -/
def vRow : FVec F S1x128 .f32 :=
  scaleV (F := F) (expField (ratio (extf .f32 (shapeCast S1x128 (multiReduction .maximumf [0] S128 (absf (vIn arg4 harg4 x2)) 0xFF80#16
    reduces_S512x128_S128 (.inr rfl) rfl) shapeCasts_S128_S1x128) bitsLt_bf16_f32)))

theorem slices_vrow (e : ℕ) : S1x128.Slices ![0, 64 * (e % 2)] S1x64 := by
  rcases Nat.mod_two_eq_zero_or_one e with h | h <;> rw [h]
  · exact slices_S1x128_o0_0_S1x64
  · exact slices_S1x128_o0_64_S1x64

/-- One head's value scales. -/
def vRowHead (e : ℕ) : FVec F S1x64 .f32 := extractStridedSlice S1x64 ![0, 64 * (e % 2)] (vRow arg4 harg4 x2) (slices_vrow e)

/-- One head's value scales, as stored. -/
def vsPay (e : ℕ) : FVec F S1x1x64 .f32 := shapeCast S1x1x64 (vRowHead arg4 harg4 x2 e) shapeCasts_S1x64_S1x1x64

/-- The value scales stored, at rows of the whole batch's scales. -/
def vsPieces (i : grid0.Coords) : List (View.Piece (Elt F) S1x8x64 .f32) :=
  [⟨Rect.unit (k0_off2 i (BitVec.ofNat 32 (1 : Fin 2).val)) S1x1x64.size (k0_off2_inb i 1), vsPay arg4 harg4 x2 1⟩,
   ⟨Rect.unit (k0_off2 i (BitVec.ofNat 32 (0 : Fin 2).val)) S1x1x64.size (k0_off2_inb i 0), vsPay arg4 harg4 x2 0⟩]

/-- One head's value scales twice over: the factors of a pair of query heads. -/
def vsPair (e : ℕ) : FVec F S1x128 .bf16 :=
  truncf .bf16 (concatenate S1x128 1 [⟨S1x64, vRowHead arg4 harg4 x2 e⟩, ⟨S1x64, vRowHead arg4 harg4 x2 e⟩] concatenates_S1x64_S1x64_S1x128_d1) bitsLt_bf16_f32

/-! ## Scores, softmax, output

Unit `u` is query head `u / 2` and half `u % 2` of the queries. -/

/-- The query heads quantized by the time unit `u` is scored. -/
def nq (u : ℕ) : ℕ := min 20 (2 * (u / 4 + 2))

/-- The raw scores of unit `u`: keys by queries. -/
def rawV (u : ℕ) : FVec F S512x256 .f32 :=
  matmul dot_S512x64_S64x256_S512x256_1_0_0_1_n_n none
    (shapeCast S512x64 (arg12.view.readCov (knPieces arg3 harg3 x1)
      (Rect.unit (s := S2x512x64) ![u / 20 % 2, 0, 0] S1x512x64.size (by intro a; fin_cases a <;> simp [S1x512x64, S2x512x64]; omega)).toLoadRect) shapeCasts_S1x512x64_S512x64)
    (shapeCast S64x256 (arg6.view.readCov (qPieces arg2 harg2 x0 (nq u))
      (Rect.unit (s := S1x20x64x512) ![0, u / 2 % 20, 0, 256 * (u % 2)] S1x1x64x256.size (by intro a; fin_cases a <;> simp [S1x1x64x256, S1x20x64x512] <;> omega)).toLoadRect) shapeCasts_S1x1x64x256_S64x256)
    (constant S512x256 .f32 0x00000000#32)

theorem slices_lane (l : ℕ) : S512x256.Slices ![0, 128 * (l % 2)] S512x128 := by
  rcases Nat.mod_two_eq_zero_or_one l with h | h <;> rw [h]
  · exact slices_S512x256_o0_0_S512x128
  · exact slices_S512x256_o0_128_S512x128

/-- The scores of a lane tile times the key scales. -/
def tV (u : ℕ) (l : ℕ) : FVec F S512x128 .f32 :=
  mulf (extractStridedSlice S512x128 ![0, 128 * (l % 2)] (rawV arg2 harg2 arg3 harg3 arg6 arg12 x0 x1 u) (slices_lane l))
    (shapeCast S512x128 (arg13.view.readCov (kcolPieces arg3 harg3 x1)
      (Rect.unit (s := S2x512x128) ![u / 20 % 2, 0, 0] S1x512x128.size (by intro a; fin_cases a <;> simp [S1x512x128, S2x512x128]; omega)).toLoadRect) shapeCasts_S1x512x128_S512x128)

/-- The scaled scores stored by the first `n` tiles (tile `n` is lane tile `n % 2` of unit `n / 2`). -/
def tPieces (n : ℕ) : List (View.Piece (Elt F) S2x2x512x128 .f32) :=
  Nat.rec [] (fun n L => ⟨Rect.unit ![(n / 2) % 2, n % 2, 0, 0] S1x1x512x128.size (by intro a; fin_cases a <;> simp [S1x1x512x128, S2x2x512x128] <;> omega),
      shapeCast S1x1x512x128 (tV arg2 harg2 arg3 harg3 arg6 arg12 arg13 x0 x1 (n / 2) n) shapeCasts_S512x128_S1x1x512x128⟩ :: L) n

/-- The tiles stored by the time unit `u` is read back. -/
def nt (u : ℕ) : ℕ := min 80 (2 * (u + 2))

/-- The logit factors of a lane tile. -/
def cV (u : ℕ) (l : ℕ) : FVec F S1x128 .f32 :=
  arg14.view.readCov (cPieces arg2 harg2 x0 (nq (u + 1)))
    (Rect.unit (s := S20x512) ![u / 2 % 20, 256 * (u % 2) + 128 * (l % 2)] S1x128.size (by intro a; fin_cases a <;> simp [S1x128, S20x512] <;> omega)).toLoadRect

/-- The weights of a lane tile: 2 to the logit less its maximum, times 256. -/
def prV (u : ℕ) (l : ℕ) : FVec F S512x128 .f32 :=
  exp2 (subf
    (mulf (shapeCast S512x128 (arg15.view.readCov (tPieces arg2 harg2 arg3 harg3 arg6 arg12 arg13 x0 x1 (nt u))
        (Rect.unit (s := S2x2x512x128) ![u % 2, l % 2, 0, 0] S1x1x512x128.size (by intro a; fin_cases a <;> simp [S1x1x512x128, S2x2x512x128] <;> omega)).toLoadRect) shapeCasts_S1x1x512x128_S512x128)
      (broadcastTo S512x128 (cV arg2 harg2 arg14 x0 u l) broadcasts_S1x128_S512x128))
    (broadcastTo S512x128 (subf (mulf (shapeCast S1x128 (multiReduction .maximumf [0] S128 (tV arg2 harg2 arg3 harg3 arg6 arg12 arg13 x0 x1 u l) 0xFF800000#32
        reduces_S512x128_S128 (.inl rfl) rfl) shapeCasts_S128_S1x128) (cV arg2 harg2 arg14 x0 u l))
      (broadcast S1x128 (Scalar.ofBits .f32 0x41000000#32))) broadcasts_S1x128_S512x128))

/-- The sums of the weights of a lane tile. -/
def lsV (u : ℕ) (l : ℕ) : FVec F S1x128 .f32 :=
  shapeCast S1x128 (multiReduction .add [0] S128 (prV arg2 harg2 arg3 harg3 arg6 arg12 arg13 arg14 arg15 x0 x1 u l) 0x00000000#32
    reduces_S512x128_S128 (.inl rfl) rfl) shapeCasts_S128_S1x128

/-- The weights' codes stored by the first `n` tiles. -/
def pPieces (n : ℕ) : List (View.Piece (Elt F) S2x512x256 .fp8e4m3) :=
  Nat.rec [] (fun n L => ⟨Rect.unit ![(n / 2) % 2, 0, 128 * (n % 2)] S1x512x128.size (by intro a; fin_cases a <;> simp [S1x512x128, S2x512x256] <;> omega),
      shapeCast S1x512x128 (truncf .fp8e4m3 (minimumf (broadcast S512x128 (Scalar.ofBits .f32 0x43E00000#32))
        (maximumf (broadcast S512x128 (Scalar.ofBits .f32 0x00000000#32)) (prV arg2 harg2 arg3 harg3 arg6 arg12 arg13 arg14 arg15 x0 x1 (n / 2) n)))
        bitsLt_fp8e4m3_f32) shapeCasts_S512x128_S1x512x128⟩ :: L) n

/-- The normalized weighted sums of unit `u`: features by queries. -/
def oV (u : ℕ) : FVec F S64x256 .bf16 :=
  truncf .bf16 (divf
    (matmul dot_S64x512_S512x256_S64x256_1_0_0_1_n_n none
      (shapeCast S64x512 (arg10.view.readCov (vcPieces arg4 harg4 x2)
        (Rect.unit (s := S1x2x64x512) ![0, u / 20 % 2, 0, 0] S1x1x64x512.size (by intro a; fin_cases a <;> simp [S1x1x64x512, S1x2x64x512]; omega)).toLoadRect) shapeCasts_S1x1x64x512_S64x512)
      (shapeCast S512x256 (arg16.view.readCov (pPieces arg2 harg2 arg3 harg3 arg6 arg12 arg13 arg14 arg15 x0 x1 (nt u))
        (Rect.unit (s := S2x512x256) ![u % 2, 0, 0] S1x512x256.size (by intro a; fin_cases a <;> simp [S1x512x256, S2x512x256]; omega)).toLoadRect) shapeCasts_S1x512x256_S512x256)
      (constant S64x256 .f32 0x00000000#32))
    (broadcastTo S64x256 (concatenate S1x256 1 [⟨S1x128, lsV arg2 harg2 arg3 harg3 arg6 arg12 arg13 arg14 arg15 x0 x1 u 0⟩,
      ⟨S1x128, lsV arg2 harg2 arg3 harg3 arg6 arg12 arg13 arg14 arg15 x0 x1 u 1⟩] concatenates_S1x128_S1x128_S1x256_d1) broadcasts_S1x256_S64x256)) bitsLt_bf16_f32

/-- The output's first `n` pieces: piece `n` is half `n % 2` of the queries, pair `n / 2` of the query heads. -/
def outPieces (n : ℕ) : List (View.Piece (Elt F) S1x512x1280 .bf16) :=
  Nat.rec [] (fun n L => ⟨Rect.unit ![0, 256 * (n % 2), 128 * (n / 2 % 10)] S1x256x128.size (by intro a; fin_cases a <;> simp [S1x256x128, S1x512x1280] <;> omega),
      shapeCast S1x256x128 (mulf (transpose S256x128 [1, 0] (concatenate S128x256 0
        [⟨S64x256, oV arg2 harg2 arg3 harg3 arg4 harg4 arg6 arg10 arg12 arg13 arg14 arg15 arg16 x0 x1 x2 (4 * (n / 2) + n % 2)⟩,
         ⟨S64x256, oV arg2 harg2 arg3 harg3 arg4 harg4 arg6 arg10 arg12 arg13 arg14 arg15 arg16 x0 x1 x2 (4 * (n / 2) + 2 + n % 2)⟩]
        concatenates_S64x256_S64x256_S128x256_d0) transposes_S128x256_p1_0_S256x128)
        (broadcastTo S256x128 (vsPair arg4 harg4 x2 (n / 10)) broadcasts_S1x128_S256x128)) shapeCasts_S256x128_S1x256x128⟩ :: L) n
end

end Cert.KI

end
-- ==== Proof.RunModel.lean ====
/- The pieces the symbolic run stores are the ones the model names. -/
module

public import proofs.«01_k».proof.Proof.Run
public import proofs.«01_k».proof.Proof.Model

@[expose] public section

set_option maxRecDepth 65536

noncomputable section

namespace Cert.KI

open Cert.KernelIdeal Cert.KernelIdeal.Gen
open Idealize.ShloMosaic Idealize.ShloMosaic.TcCoe Idealize.ShloMosaic.Tactic

variable {F : FTy → Type} [FloatOps F] [Named F]
variable (c : Dev nD) (arg2 : Memref sig .tc .vmem S1x512x1280 .bf16) (harg2 : arg2.IsWhole)
  (arg3 : Memref sig .tc .vmem S1x512x128 .bf16) (harg3 : arg3.IsWhole)
  (arg4 : Memref sig .tc .vmem S1x512x128 .bf16) (harg4 : arg4.IsWhole)
  (arg6 : Memref sig .tc .vmem S1x20x64x512 .fp8e4m3) (arg10 : Memref sig .tc .vmem S1x2x64x512 .fp8e4m3)
  (arg12 : Memref sig .tc .vmem S2x512x64 .fp8e4m3) (arg13 : Memref sig .tc .vmem S2x512x128 .f32)
  (arg14 : Memref sig .tc .vmem S20x512 .f32) (arg15 : Memref sig .tc .vmem S2x2x512x128 .f32)
  (arg16 : Memref sig .tc .vmem S2x512x256 .fp8e4m3)
  (x0 : Vec F S1x512x1280 .bf16) (x1 : Vec F S1x512x128 .bf16) (x2 : Vec F S1x512x128 .bf16)

set_option maxHeartbeats 4000000
theorem H8_eq : kernelRun.sl.H8_2 c arg4 harg4 x2 = vcPieces arg4 harg4 x2 := by sl_kernel_rfl
theorem HS0_eq : kernelRun.sl.HS0_2 c arg3 harg3 x1 = knPieces arg3 harg3 x1 := by sl_kernel_rfl
theorem HS1_eq : kernelRun.sl.HS1_2 c arg3 harg3 x1 = kcolPieces arg3 harg3 x1 := by sl_kernel_rfl
theorem H4_eq : kernelRun.sl.H4_20 c arg2 harg2 x0 = qPieces arg2 harg2 x0 20 := by sl_kernel_rfl
theorem HS2_eq : kernelRun.sl.HS2_20 c arg2 harg2 x0 = cPieces arg2 harg2 x0 20 := by sl_kernel_rfl
theorem HS3_eq : kernelRun.sl.HS3_80 c arg2 harg2 arg3 harg3 arg6 arg12 arg13 x0 x1 = tPieces arg2 harg2 arg3 harg3 arg6 arg12 arg13 x0 x1 80 := by sl_kernel_rfl
theorem HS4_eq : kernelRun.sl.HS4_80 c arg2 harg2 arg3 harg3 arg6 arg12 arg13 arg14 arg15 x0 x1 = pPieces arg2 harg2 arg3 harg3 arg6 arg12 arg13 arg14 arg15 x0 x1 80 := by sl_kernel_rfl
variable (i : grid0.Coords) (arg5 : Memref sig .tc .vmem S1x512x1280 .bf16) (harg5 : arg5.IsWhole) (harg6 : arg6.IsWhole)
  (arg7 : Memref sig .tc .vmem S1x80x512 .f32) (harg7 : arg7.IsWhole) (arg8 : Memref sig .tc .vmem S1x2x64x512 .fp8e4m3) (harg8 : arg8.IsWhole)
  (arg9 : Memref sig .tc .vmem S1x8x512 .f32) (harg9 : arg9.IsWhole) (harg10 : arg10.IsWhole)
  (arg11 : Memref sig .tc .vmem S1x8x64 .f32) (harg11 : arg11.IsWhole) (harg12 : arg12.IsWhole) (harg13 : arg13.IsWhole)
  (harg14 : arg14.IsWhole) (harg15 : arg15.IsWhole) (harg16 : arg16.IsWhole)

/-- The output's pieces are the model's. -/
theorem out_eq : (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).1
    = outPieces arg2 harg2 arg3 harg3 arg4 harg4 arg6 arg10 arg12 arg13 arg14 arg15 arg16 x0 x1 x2 20 := by sl_kernel_rfl

/-- The query codes' pieces are the model's. -/
theorem qc_eq : (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 = qPieces arg2 harg2 x0 20 := by sl_kernel_rfl
/-- The query scales' pieces are the model's. -/
theorem qs_eq : (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.1 = qsPieces arg2 harg2 x0 i 20 := by sl_kernel_rfl
/-- The key codes' pieces are the model's. -/
theorem kc_eq : (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 = kcPieces arg3 harg3 x1 := by sl_kernel_rfl
/-- The key scales' pieces are the model's. -/
theorem ks_eq : (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.2.1 = ksPieces arg3 harg3 x1 i := by sl_kernel_rfl
/-- The value codes' pieces are the model's. -/
theorem vc_eq : (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.2.2.1 = vcPieces arg4 harg4 x2 := by sl_kernel_rfl
/-- The value scales' pieces are the model's. -/
theorem vs_eq : (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.2.2.2.1 = vsPieces arg4 harg4 x2 i := by sl_kernel_rfl

end Cert.KI
end
-- ==== Proof.Dat.lean ====
/- The pipeline's proof data of the kernel over any numbers: what the body leaves in each window's block at each point.
   The scales' three blocks hold a whole batch and are written some rows at a time, so what is left there depends on what
   was found; the data are therefore relations between the contents found and the contents left. -/
module

public import proofs.«01_k».proof.Proof.RunModel
public import Idealize.ShloMosaic.Lib.Claim
public import Idealize.ShloMosaic.Lib.Quiescent

@[expose] public section

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S1x512x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1280 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x20x64x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x80x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x64x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x64x512 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x64 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2x512x64 .fp8e4m3 := Memref.whole cc0_scratch0
abbrev scM0_1 : Memref sig .tc .vmem S2x512x128 .f32 := Memref.whole cc0_scratch1
abbrev scM0_2 : Memref sig .tc .vmem S20x512 .f32 := Memref.whole cc0_scratch2
abbrev scM0_3 : Memref sig .tc .vmem S2x2x512x128 .f32 := Memref.whole cc0_scratch3
abbrev scM0_4 : Memref sig .tc .vmem S2x512x256 .fp8e4m3 := Memref.whole cc0_scratch4

/-- The invariant between points: each scratch buffer owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The pieces stored in window 3's block at point `t`. -/
def outL (c : Dev nD) (t : Fin cfg0.N) : List (View.Piece (Elt F) S1x512x1280 .bf16) :=
  outPieces (ms0_0 t) (hs0_0 t) (ms0_1 t) (hs0_1 t) (ms0_2 t) (hs0_2 t) (ms0_4 t) (ms0_8 t) scM0_0 scM0_1 scM0_2 scM0_3 scM0_4 (iblk m c 0 t) (iblk m c 1 t) (iblk m c 2 t) 20

/-- The pieces stored in window 4's block at point `t`. -/
def qcL (c : Dev nD) (t : Fin cfg0.N) : List (View.Piece (Elt F) S1x20x64x512 .fp8e4m3) :=
  qPieces (ms0_0 t) (hs0_0 t) (iblk m c 0 t) 20

/-- The pieces stored in window 5's block at point `t`. -/
def qsL (c : Dev nD) (t : Fin cfg0.N) : List (View.Piece (Elt F) S1x80x512 .f32) :=
  qsPieces (ms0_0 t) (hs0_0 t) (iblk m c 0 t) (grid0.coords t) 20

/-- The pieces stored in window 6's block at point `t`. -/
def kcL (c : Dev nD) (t : Fin cfg0.N) : List (View.Piece (Elt F) S1x2x64x512 .fp8e4m3) :=
  kcPieces (ms0_1 t) (hs0_1 t) (iblk m c 1 t)

/-- The pieces stored in window 7's block at point `t`. -/
def ksL (c : Dev nD) (t : Fin cfg0.N) : List (View.Piece (Elt F) S1x8x512 .f32) :=
  ksPieces (ms0_1 t) (hs0_1 t) (iblk m c 1 t) (grid0.coords t)

/-- The pieces stored in window 8's block at point `t`. -/
def vcL (c : Dev nD) (t : Fin cfg0.N) : List (View.Piece (Elt F) S1x2x64x512 .fp8e4m3) :=
  vcPieces (ms0_2 t) (hs0_2 t) (iblk m c 2 t)

/-- The pieces stored in window 9's block at point `t`. -/
def vsL (c : Dev nD) (t : Fin cfg0.N) : List (View.Piece (Elt F) S1x8x64 .f32) :=
  vsPieces (ms0_2 t) (hs0_2 t) (iblk m c 2 t) (grid0.coords t)

/-- The proof data: an input's block is left as found; the output and code blocks hold their pieces over anything; the scale
    blocks hold their pieces over what was found. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun _ X => ∃ f, X = (ms0_3 t).view.read (Elt F) ((ms0_3 t).view.writes (Elt F) f (outL m c t))
    | ⟨4, _⟩ => fun _ X => ∃ f, X = (ms0_4 t).view.read (Elt F) ((ms0_4 t).view.writes (Elt F) f (qcL m c t))
    | ⟨5, _⟩ => fun Y X => X = (ms0_5 t).view.read (Elt F) ((ms0_5 t).view.writes (Elt F) ((hs0_5 t).unread Y) (qsL m c t))
    | ⟨6, _⟩ => fun _ X => ∃ f, X = (ms0_6 t).view.read (Elt F) ((ms0_6 t).view.writes (Elt F) f (kcL m c t))
    | ⟨7, _⟩ => fun Y X => X = (ms0_7 t).view.read (Elt F) ((ms0_7 t).view.writes (Elt F) ((hs0_7 t).unread Y) (ksL m c t))
    | ⟨8, _⟩ => fun _ X => ∃ f, X = (ms0_8 t).view.read (Elt F) ((ms0_8 t).view.writes (Elt F) f (vcL m c t))
    | ⟨9, _⟩ => fun Y X => X = (ms0_9 t).view.read (Elt F) ((ms0_9 t).view.writes (Elt F) ((hs0_9 t).unread Y) (vsL m c t))
  Φ _ := Pipeline.ΦA spec0 c
  q _ := fullShare
  owed _ := 0

/-- The proof data's arrays are the region-entry contents. -/
theorem A_eq (c : Dev nD) (w : Fin cfg0.W) : (rdat m c).A w = V m c (Pipeline.arrRef spec0 w) := by
  dsimp only [rdat]

/-- Input window 0's buffer holds its block at every point. -/
theorem finds_0 (c : Dev nD) (t : Fin cfg0.N) (Y) (h : (rdat m c).Finds 0 t Y) : Y = iblk m c 0 t := by
  obtain ⟨d, rfl⟩ := (rdat m c).finds_in_eq_fetched 0 rfl (fun _ _ _ => rfl) (fun t Y X h => h) t Y h
  unfold RDat.fetched RDat.blockOf iblk; rw [A_eq]; try rfl

/-- Input window 1's buffer holds its block at every point. -/
theorem finds_1 (c : Dev nD) (t : Fin cfg0.N) (Y) (h : (rdat m c).Finds 1 t Y) : Y = iblk m c 1 t := by
  obtain ⟨d, rfl⟩ := (rdat m c).finds_in_eq_fetched 1 rfl (fun _ _ _ => rfl) (fun t Y X h => h) t Y h
  unfold RDat.fetched RDat.blockOf iblk; rw [A_eq]; try rfl

/-- Input window 2's buffer holds its block at every point. -/
theorem finds_2 (c : Dev nD) (t : Fin cfg0.N) (Y) (h : (rdat m c).Finds 2 t Y) : Y = iblk m c 2 t := by
  obtain ⟨d, rfl⟩ := (rdat m c).finds_in_eq_fetched 2 rfl (fun _ _ _ => rfl) (fun t Y X h => h) t Y h
  unfold RDat.fetched RDat.blockOf iblk; rw [A_eq]; try rfl

set_option maxHeartbeats 4000000 in
/-- The body at any point, from any contents the windows may hold there. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc ∗ owns (c : Thread nD τ) (ms0_0 t) fullShare (Y 0) ∗ owns (c : Thread nD τ) (ms0_1 t) fullShare (Y 1) ∗ owns (c : Thread nD τ) (ms0_2 t) fullShare (Y 2) ∗ owns (c : Thread nD τ) (ms0_3 t) fullShare (Y 3) ∗ owns (c : Thread nD τ) (ms0_4 t) fullShare (Y 4) ∗ owns (c : Thread nD τ) (ms0_5 t) fullShare (Y 5) ∗ owns (c : Thread nD τ) (ms0_6 t) fullShare (Y 6) ∗ owns (c : Thread nD τ) (ms0_7 t) fullShare (Y 7) ∗ owns (c : Thread nD τ) (ms0_8 t) fullShare (Y 8) ∗ owns (c : Thread nD τ) (ms0_9 t) fullShare (Y 9))
      ⊢ wp frame (wpE (defs₀ (F := F)) Variants.none c none) Set.univ (bodyAt0 t) (fun _ =>
        iprop((rdat m c).Φ t.succ ∗ (rdat m c).owesAt () t.succ ∗ (∃ X, ⌜(rdat m c).after 0 t (Y 0) X⌝ ∗ owns (c : Thread nD τ) (ms0_0 t) fullShare X) ∗ (∃ X, ⌜(rdat m c).after 1 t (Y 1) X⌝ ∗ owns (c : Thread nD τ) (ms0_1 t) fullShare X) ∗ (∃ X, ⌜(rdat m c).after 2 t (Y 2) X⌝ ∗ owns (c : Thread nD τ) (ms0_2 t) fullShare X) ∗ (∃ X, ⌜(rdat m c).after 3 t (Y 3) X⌝ ∗ owns (c : Thread nD τ) (ms0_3 t) fullShare X) ∗ (∃ X, ⌜(rdat m c).after 4 t (Y 4) X⌝ ∗ owns (c : Thread nD τ) (ms0_4 t) fullShare X) ∗ (∃ X, ⌜(rdat m c).after 5 t (Y 5) X⌝ ∗ owns (c : Thread nD τ) (ms0_5 t) fullShare X) ∗ (∃ X, ⌜(rdat m c).after 6 t (Y 6) X⌝ ∗ owns (c : Thread nD τ) (ms0_6 t) fullShare X) ∗ (∃ X, ⌜(rdat m c).after 7 t (Y 7) X⌝ ∗ owns (c : Thread nD τ) (ms0_7 t) fullShare X) ∗ (∃ X, ⌜(rdat m c).after 8 t (Y 8) X⌝ ∗ owns (c : Thread nD τ) (ms0_8 t) fullShare X) ∗ (∃ X, ⌜(rdat m c).after 9 t (Y 9) X⌝ ∗ owns (c : Thread nD τ) (ms0_9 t) fullShare X))) := by
  unfold bodyAt0
  have h0 := finds_0 m c t _ (hY 0)
  have h1 := finds_1 m c t _ (hY 1)
  have h2 := finds_2 m c t _ (hY 2)
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, PhiA0_eq]
  iintro ⟨⟨⟨HS0, HS1, HS2, HS3, HS4⟩, Hg⟩, Ho, H0, H1, H2, H3, H4, H5, H6, H7, H8, H9⟩
  iapply ((kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (Y 0) (Y 1) (Y 2)).2.2.2.2.2.2.2.2.2.2.2.2 (Y 5) (Y 7) (Y 9) Set.univ _)
  isplitl [H0]; · iexact H0
  isplitl [H1]; · iexact H1
  isplitl [H2]; · iexact H2
  isplitl [H3]; · iexists _; iexact H3
  isplitl [H4]; · iexists _; iexact H4
  isplitl [H5]; · iexact H5
  isplitl [H6]; · iexists _; iexact H6
  isplitl [H7]; · iexact H7
  isplitl [H8]; · iexists _; iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, ⟨%f3, H3⟩, ⟨%f4, H4⟩, H5, ⟨%f6, H6⟩, H7, ⟨%f8, H8⟩, H9, HS0, HS1, HS2, HS3, HS4⟩
  isplitl [HS0 HS1 HS2 HS3 HS4 Hg]
  · isplitl [HS0 HS1 HS2 HS3 HS4]
    · isplitl [HS0]
      · icases HS0 with ⟨%g, HS0⟩; iexists _; unfold owns; iexists _; isplitr; swap; · iexact HS0
        ipureintro; rfl
      isplitl [HS1]
      · icases HS1 with ⟨%g, HS1⟩; iexists _; unfold owns; iexists _; isplitr; swap; · iexact HS1
        ipureintro; rfl
      isplitl [HS2]
      · icases HS2 with ⟨%g, HS2⟩; iexists _; unfold owns; iexists _; isplitr; swap; · iexact HS2
        ipureintro; rfl
      isplitl [HS3]
      · icases HS3 with ⟨%g, HS3⟩; iexists _; unfold owns; iexists _; isplitr; swap; · iexact HS3
        ipureintro; rfl
      icases HS4 with ⟨%g, HS4⟩; iexists _; unfold owns; iexists _; isplitr; swap; · iexact HS4
      ipureintro; rfl
    iexact Hg
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]
  · iexists ((ms0_3 t).view.read (Elt F) _); isplitr; swap
    · unfold owns; iexists _; isplitr; swap; · iexact H3
      ipureintro; rfl
    ipureintro; exact ⟨f3, by rw [out_eq, h0, h1, h2]; rfl⟩
  isplitl [H4]
  · iexists ((ms0_4 t).view.read (Elt F) _); isplitr; swap
    · unfold owns; iexists _; isplitr; swap; · iexact H4
      ipureintro; rfl
    ipureintro; exact ⟨f4, by rw [qc_eq, h0]; rfl⟩
  isplitl [H5]
  · iexists ((ms0_5 t).view.read (Elt F) _); isplitr; swap
    · unfold owns; iexists _; isplitr; swap; · iexact H5
      ipureintro; rfl
    ipureintro; show _ = _; rw [qs_eq, h0]; rfl
  isplitl [H6]
  · iexists ((ms0_6 t).view.read (Elt F) _); isplitr; swap
    · unfold owns; iexists _; isplitr; swap; · iexact H6
      ipureintro; rfl
    ipureintro; exact ⟨f6, by rw [kc_eq, h1]; rfl⟩
  isplitl [H7]
  · iexists ((ms0_7 t).view.read (Elt F) _); isplitr; swap
    · unfold owns; iexists _; isplitr; swap; · iexact H7
      ipureintro; rfl
    ipureintro; show _ = _; rw [ks_eq, h1]; rfl
  isplitl [H8]
  · iexists ((ms0_8 t).view.read (Elt F) _); isplitr; swap
    · unfold owns; iexists _; isplitr; swap; · iexact H8
      ipureintro; rfl
    ipureintro; exact ⟨f8, by rw [vc_eq, h2]; rfl⟩
  iexists ((ms0_9 t).view.read (Elt F) _); isplitr; swap
  · unfold owns; iexists _; isplitr; swap; · iexact H9
    ipureintro; rfl
  ipureintro; show _ = _; rw [vs_eq, h2]; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

set_option backward.isDefEq.respectTransparency.types false in
/-- The run: every array ends in the data's relation to its entry contents, and every semaphore counter at zero. -/
theorem run_main : θ_run defs (onTc (τ := τ) (main (F := F))) (s₀ m ρ) (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hΦ := fun _ _ => rfl)

/-- The frame: the argument arrays end unchanged, every counter at zero, over any numbers. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c))⟩, h.2⟩) (run_main m ρ)

end Cert.KI

end
-- ==== Proof.RefFrame.lean ====
/- The frame of the reference over the extended reals. -/
module

public import proofs.«01_k».proof.Defs
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.RefFrame

open Idealize.ShloMosaic Idealize.SL.Sem

/-- The reference over the extended reals runs to its end, leaves its three arguments as they were, and holds no
    semaphore at a count other than zero (it has none). -/
theorem frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2.2.2.2.2.2.2, Idealize.ShloMosaic.sem_eq_zero_of_no_sems (by decide) r.2⟩)
    (Cert.ReferenceIdeal.Value.run (F := Ideal) m ρ)

end Cert.RefFrame

end
-- ==== Proof.Scalar.lean ====
/- Scalar facts over the extended reals: the exponent found bit by bit spells the power of two above a ratio, and its inverse. -/
module

public import Idealize.ShloMosaic.Lib.Pointwise

@[expose] public section

noncomputable section

namespace Cert.Scalar

open Idealize.ShloMosaic

/-- What the exponent field `M`, alone in an f32 word, spells: zero, a power of two, or infinity. -/
def pv (M : ℕ) : EReal := if M = 0 then 0 else if 255 ≤ M then ⊤ else (((2 : ℝ) ^ ((M : ℤ) - 127) : ℝ) : EReal)

theorem sign_zero (M : ℕ) (h : M ≤ 255) : (BitVec.extractLsb' 31 1 (BitVec.ofNat 32 (M * 8388608)) == 1#1) = false := by
  have : BitVec.extractLsb' 31 1 (BitVec.ofNat 32 (M * 8388608)) = 0#1 := by
    apply BitVec.eq_of_toNat_eq
    rw [BitVec.extractLsb'_toNat, BitVec.toNat_ofNat, Nat.shiftRight_eq_div_pow]
    norm_num
    omega
  rw [this]; rfl

theorem field_eq (M : ℕ) (h : M ≤ 255) : (BitVec.extractLsb' 23 8 (BitVec.ofNat 32 (M * 8388608))).toNat = M := by
  rw [BitVec.extractLsb'_toNat, BitVec.toNat_ofNat, Nat.shiftRight_eq_div_pow]
  norm_num
  omega

theorem frac_zero (M : ℕ) : (BitVec.extractLsb' 0 23 (BitVec.ofNat 32 (M * 8388608))).toNat = 0 := by
  rw [BitVec.extractLsb'_toNat, BitVec.toNat_ofNat, Nat.shiftRight_eq_div_pow]
  norm_num

/-- An f32 word that holds an exponent field alone. -/
theorem ofBits_pv (M : ℕ) (h : M ≤ 255) : Ideal.ofBits .f32 (BitVec.ofNat 32 (M * 8388608)) = pv M := by
  have a1 := sign_zero M h
  have a2 := field_eq M h
  have a3 := frac_zero M
  generalize BitVec.ofNat 32 (M * 8388608) = w at *
  unfold Ideal.ofBits Ideal.ieee pv
  simp only [Nat.reduceAdd]
  rw [a1, a2, a3]
  by_cases h0 : M = 0
  · subst h0; simp
  · by_cases h5 : M = 255
    · subst h5; simp
    · simp only [Bool.false_eq_true, if_false, Nat.add_zero]
      rw [if_neg (by norm_num; exact h5), if_neg h0, if_neg h0, if_neg (by omega)]
      congr 1
      have : ((2 : ℝ) ^ ((M : ℤ) - 127)) = 2 ^ 23 * 2 ^ ((M : ℤ) - 127 - 23) := by
        rw [← zpow_natCast, ← zpow_add₀ (by norm_num)]
        congr 1
        norm_num
      rw [this]
      norm_num

theorem pv_succ_le (M : ℕ) (h0 : M ≠ 0) (h : M < 255) : pv M = (((2 : ℝ) ^ ((M : ℤ) - 127) : ℝ) : EReal) := by
  unfold pv; rw [if_neg h0, if_neg (by omega)]

/-- One step of the search, on one ratio. -/
def stepS (r : EReal) (b ef : BitVec 32) : BitVec 32 := if r < Ideal.ofBits .f32 (ef + b) then ef else ef + b

/-- The search. -/
def efS (r : EReal) : BitVec 32 :=
  stepS r 8388608#32 (stepS r 16777216#32 (stepS r 33554432#32 (stepS r 67108864#32
    (stepS r 134217728#32 (stepS r 268435456#32 (stepS r 536870912#32 (stepS r 1073741824#32 0#32)))))))

/-- The search's invariant: the field spells at most the ratio, and more than the ratio once the remaining bits' worth is added. -/
def Inv (r : EReal) (k : ℕ) (ef : BitVec 32) : Prop :=
  ∃ M, M + 2 ^ k ≤ 256 ∧ ef = BitVec.ofNat 32 (M * 8388608) ∧ pv M ≤ r ∧ r < pv (M + 2 ^ k)

theorem step_inv (r : EReal) (k : ℕ) (ef b : BitVec 32) (hb : b = BitVec.ofNat 32 (2 ^ k * 8388608)) (h : Inv r (k + 1) ef) :
    Inv r k (stepS r b ef) := by
  obtain ⟨M, hM, rfl, hl, hu⟩ := h
  have hs : BitVec.ofNat 32 (M * 8388608) + b = BitVec.ofNat 32 ((M + 2 ^ k) * 8388608) := by
    rw [hb, ← BitVec.ofNat_add, Nat.add_mul]
  have hp : 2 ^ (k + 1) = 2 ^ k + 2 ^ k := by ring
  have hk : 0 < 2 ^ k := Nat.pos_of_ne_zero (by positivity)
  have he : Ideal.ofBits .f32 (BitVec.ofNat 32 ((M + 2 ^ k) * 8388608)) = pv (M + 2 ^ k) := ofBits_pv _ (by omega)
  unfold stepS
  rw [hs, he]
  by_cases c : r < pv (M + 2 ^ k)
  · rw [if_pos c]; exact ⟨M, by omega, rfl, hl, c⟩
  · rw [if_neg c]
    exact ⟨M + 2 ^ k, by omega, rfl, not_lt.mp c, by rw [Nat.add_assoc, ← hp]; exact hu⟩

/-- The field found spells the power of two at or below a finite ratio. -/
theorem efS_spec (r : EReal) (h0 : 0 ≤ r) (ht : r < ⊤) : Inv r 0 (efS r) := by
  have hi : Inv r 8 0#32 := ⟨0, by norm_num, by simp, by simpa [pv] using h0, by simpa [pv] using ht⟩
  unfold efS
  exact step_inv r 0 _ _ rfl <| step_inv r 1 _ _ rfl <| step_inv r 2 _ _ rfl <| step_inv r 3 _ _ rfl <|
    step_inv r 4 _ _ rfl <| step_inv r 5 _ _ rfl <| step_inv r 6 _ _ rfl <| step_inv r 7 _ _ rfl hi

/-- The scale's and the inverse scale's word from the field. -/
def scaleS (ef : BitVec 32) : EReal := Ideal.ofBits .f32 (if ef = 0#32 then 1065353216#32 else ef + 8388608#32)
def invS (ef : BitVec 32) : EReal := Ideal.ofBits .f32 (if ef = 0#32 then 1065353216#32 else 2122317824#32 - ef)

/-- The exponent of the power of two above a ratio; zero of a ratio below the least normal number. -/
def expo (r : ℝ) : ℤ := if r < (2 : ℝ) ^ (-126 : ℤ) then 0 else ⌊Real.log r / Real.log 2⌋ + 1

theorem floor_log (r : ℝ) (n : ℤ) (hl : (2 : ℝ) ^ n ≤ r) (hu : r < (2 : ℝ) ^ (n + 1)) : ⌊Real.log r / Real.log 2⌋ = n := by
  have hr : 0 < r := lt_of_lt_of_le (by positivity) hl
  have h2 : 0 < Real.log 2 := Real.log_pos (by norm_num)
  rw [Int.floor_eq_iff]
  constructor
  · rw [le_div_iff₀ h2, ← Real.log_zpow]; exact Real.log_le_log (by positivity) hl
  · rw [div_lt_iff₀ h2]
    have := Real.log_lt_log hr hu
    rw [Real.log_zpow] at this; push_cast at this; exact this

theorem scale_inv (r : ℝ) (h0 : 0 ≤ r) (h : r < (2 : ℝ) ^ (120 : ℤ)) :
    scaleS (efS r) = (((2 : ℝ) ^ (expo r) : ℝ) : EReal) ∧ invS (efS r) = (((2 : ℝ) ^ (-expo r) : ℝ) : EReal) := by
  obtain ⟨M, hM, he, hl, hu⟩ := efS_spec r (by exact_mod_cast h0) (EReal.coe_lt_top r)
  rw [he]
  simp only [pow_zero] at hM hu
  have one : Ideal.ofBits .f32 1065353216#32 = ((1 : ℝ) : EReal) := by
    rw [show (1065353216#32 : BitVec 32) = BitVec.ofNat 32 (127 * 8388608) by rfl, ofBits_pv _ (by norm_num), pv_succ_le _ (by norm_num) (by norm_num)]
    norm_num
  by_cases hz : M = 0
  · subst hz
    have : expo r = 0 := by
      unfold expo; rw [if_pos]
      rw [pv_succ_le _ (by norm_num) (by norm_num)] at hu
      have := EReal.coe_lt_coe_iff.mp hu
      norm_num at this ⊢; exact this
    rw [this]
    simp only [scaleS, invS, Nat.zero_mul]
    rw [if_pos trivial, if_pos trivial, one]; norm_num
  · have hM250 : M < 248 := by
      by_contra hc
      have : pv M ≤ ((2 : ℝ) ^ (120 : ℤ) : ℝ) := hl.trans (by exact_mod_cast h.le)
      unfold pv at this
      rw [if_neg hz] at this
      by_cases h5 : 255 ≤ M
      · rw [if_pos h5] at this; exact absurd (top_le_iff.mp this) (EReal.coe_ne_top _)
      · rw [if_neg h5] at this
        have h6 := EReal.coe_le_coe_iff.mp this
        have h7 : (2 : ℝ) ^ (120 : ℤ) < (2 : ℝ) ^ (M - 127 : ℤ) ∨ M = 247 := by
          left; exact zpow_lt_zpow_right₀ (by norm_num) (by omega)
        rcases h7 with h7 | h7
        · exact absurd h6 (not_le.mpr h7)
        · omega
    rw [pv_succ_le _ hz (by omega)] at hl
    rw [pv_succ_le _ (by omega) (by omega)] at hu
    have hl' := EReal.coe_le_coe_iff.mp hl
    have hu' := EReal.coe_lt_coe_iff.mp hu
    have hf := floor_log r ((M : ℤ) - 127) hl' (by convert hu' using 2; push_cast; ring)
    have hx : expo r = (M : ℤ) - 126 := by
      unfold expo
      rw [if_neg (not_lt.mpr (le_trans (zpow_le_zpow_right₀ (by norm_num) (by omega)) hl')), hf]; ring
    have hne : BitVec.ofNat 32 (M * 8388608) ≠ 0#32 := by
      intro hc
      have := congrArg BitVec.toNat hc
      simp only [BitVec.toNat_ofNat] at this
      omega
    rw [hx]
    simp only [scaleS, invS]
    rw [if_neg hne, if_neg hne]
    constructor
    · rw [show BitVec.ofNat 32 (M * 8388608) + 8388608#32 = BitVec.ofNat 32 ((M + 1) * 8388608) by
        rw [Nat.add_mul, BitVec.ofNat_add], ofBits_pv _ (by omega), pv_succ_le _ (by omega) (by omega)]
      congr 2; push_cast; ring
    · rw [show 2122317824#32 - BitVec.ofNat 32 (M * 8388608) = BitVec.ofNat 32 ((253 - M) * 8388608) by
        apply BitVec.eq_of_toNat_eq
        rw [BitVec.toNat_sub]
        simp only [BitVec.toNat_ofNat]
        omega, ofBits_pv _ (by omega), pv_succ_le _ (by omega) (by omega)]
      congr 2; push_cast [Nat.cast_sub (show M ≤ 253 by omega)]; omega

/-- The reference's power of two above a ratio. -/
def refScale (r : EReal) : EReal :=
  Ideal.pow (Ideal.ofBits .f32 0x40000000#32)
    (if r < Ideal.ofBits .f32 0x00800000#32 then Ideal.ofBits .f32 0x00000000#32
      else Ideal.liftRound Int.floor (Ideal.div (Ideal.log r) (Ideal.log (Ideal.ofBits .f32 0x40000000#32))) + Ideal.ofBits .f32 0x3F800000#32)

theorem two_bits : Ideal.ofBits .f32 0x40000000#32 = ((2 : ℝ) : EReal) := by
  rw [show (0x40000000#32 : BitVec 32) = BitVec.ofNat 32 (128 * 8388608) by rfl, ofBits_pv _ (by norm_num), pv_succ_le _ (by norm_num) (by norm_num)]
  norm_num

theorem one_bits : Ideal.ofBits .f32 0x3F800000#32 = ((1 : ℝ) : EReal) := by
  rw [show (0x3F800000#32 : BitVec 32) = BitVec.ofNat 32 (127 * 8388608) by rfl, ofBits_pv _ (by norm_num), pv_succ_le _ (by norm_num) (by norm_num)]
  norm_num

theorem zero_bits : Ideal.ofBits .f32 0x00000000#32 = ((0 : ℝ) : EReal) := by
  rw [show (0x00000000#32 : BitVec 32) = BitVec.ofNat 32 (0 * 8388608) by rfl, ofBits_pv _ (by norm_num)]
  simp [pv]

theorem tiny_bits : Ideal.ofBits .f32 0x00800000#32 = (((2 : ℝ) ^ (-126 : ℤ) : ℝ) : EReal) := by
  rw [show (0x00800000#32 : BitVec 32) = BitVec.ofNat 32 (1 * 8388608) by rfl, ofBits_pv _ (by norm_num), pv_succ_le _ (by norm_num) (by norm_num)]
  norm_num

/-- The reference's scale of a finite ratio. -/
theorem refScale_eq (r : ℝ) (h0 : 0 ≤ r) : refScale r = (((2 : ℝ) ^ (expo r) : ℝ) : EReal) := by
  unfold refScale expo
  rw [two_bits, tiny_bits, zero_bits, one_bits]
  by_cases h : r < (2 : ℝ) ^ (-126 : ℤ)
  · rw [if_pos (EReal.coe_lt_coe_iff.mpr h), if_pos h]
    show ((Real.rpow 2 0 : ℝ) : EReal) = _
    simp
  · rw [if_neg (by rw [EReal.coe_lt_coe_iff]; exact h), if_neg h]
    have hr : 0 < r := lt_of_lt_of_le (by positivity) (not_lt.mp h)
    have h2 : 0 < Real.log 2 := Real.log_pos (by norm_num)
    have e1 : Ideal.log (r : EReal) = ((Real.log r : ℝ) : EReal) := by
      show (if r ≤ 0 then (⊥ : EReal) else _) = _
      rw [if_neg (not_le.mpr hr)]
    have e2 : Ideal.log ((2 : ℝ) : EReal) = ((Real.log 2 : ℝ) : EReal) := by
      show (if (2 : ℝ) ≤ 0 then (⊥ : EReal) else _) = _
      rw [if_neg (by norm_num)]
    have e3 : Ideal.div ((Real.log r : ℝ) : EReal) ((Real.log 2 : ℝ) : EReal) = ((Real.log r / Real.log 2 : ℝ) : EReal) := by
      unfold Ideal.div
      rw [if_neg (by exact_mod_cast h2.ne'), div_eq_mul_inv, EReal.coe_mul, EReal.coe_inv]
    rw [e1, e2, e3]
    show Ideal.pow ((2 : ℝ) : EReal) ((((⌊Real.log r / Real.log 2⌋ : ℤ) : ℝ) : EReal) + ((1 : ℝ) : EReal)) = _
    rw [← EReal.coe_add]
    show ((Real.rpow 2 _ : ℝ) : EReal) = _
    congr 1
    rw [show (((⌊Real.log r / Real.log 2⌋ : ℤ) : ℝ) + 1) = ((⌊Real.log r / Real.log 2⌋ + 1 : ℤ) : ℝ) by push_cast; ring]
    exact Real.rpow_intCast 2 _

/-! ## The quantiser of one row -/

/-- The greatest absolute value of a row. -/
def amaxS {n : ℕ} (row : Fin n → EReal) : EReal := Finset.univ.fold max ⊥ fun k => max (row k) (-(row k))

/-- A row's absolute maximum over 448, as the kernel and the reference both round that constant. -/
def ratioS {n : ℕ} (row : Fin n → EReal) : EReal := amaxS row * Ideal.ofBits .f32 0x3B124925#32

/-- The clip to ±448. -/
def clipS (z : EReal) : EReal := min (Ideal.ofBits .f32 0x43E00000#32) (max (Ideal.ofBits .f32 0xC3E00000#32) z)

/-- The kernel's code of an element of a row. -/
def codeS {n : ℕ} (row : Fin n → EReal) (x : EReal) : EReal := clipS (x * invS (efS (ratioS row)))

theorem bot_bits16 : Ideal.ofBits .bf16 65408#16 = ⊥ := by
  simp [Ideal.ofBits, Ideal.ieee]

theorem bot_bits32 : Ideal.ofBits .f32 4286578688#32 = ⊥ := by
  simp [Ideal.ofBits, Ideal.ieee]

end Cert.Scalar

end
-- ==== Proof.Vals.lean ====
/- The kernel's quantisers over the extended reals, at an index: each exponent, scale and code of a block from the block's
   elements, and the stored pieces read back. -/
module

public import proofs.«01_k».proof.Proof.Model
public import proofs.«01_k».proof.Proof.Scalar
public import Idealize.ShloMosaic.Lib.Pointwise
public import Idealize.ShloMosaic.Lib.WritesUnit

@[expose] public section

noncomputable section

namespace Cert.KI

open Cert.KernelIdeal Cert.KernelIdeal.Gen
open Idealize.ShloMosaic Idealize.ShloMosaic.TcCoe Idealize.ShloMosaic.Tactic
open Cert.Scalar

/-- One step of the search, at an index. -/
theorem expStep_apply {s : Shape} (r : FVec Ideal s .f32) (b : BitVec 32) (ef : IVec s 32) (j : s.Idx) :
    expStep r b ef j = stepS (r j) b (ef j) := by
  unfold stepS
  pointwise [expStep]
  rfl

theorem expField_apply {s : Shape} (r : FVec Ideal s .f32) (j : s.Idx) : expField r j = efS (r j) := by
  simp only [expField, expStep_apply, efS]; rfl

theorem select_eq {α : Type} (a b : BitVec 32) (x y : α) :
    Scalar.select (IntOp.cmpi CmpIPredicate.eq a b) x y = if a = b then x else y := by
  unfold Scalar.select IntOp.cmpi
  by_cases h : a = b
  · simp [h]
  · have : (a == b) = false := by simp [h]
    simp [h, this]

theorem scaleV_apply {s : Shape} (ef : IVec s 32) (j : s.Idx) : scaleV (F := Ideal) ef j = scaleS (ef j) := by
  unfold scaleS
  pointwise [scaleV]
  rw [select_eq]; rfl

theorem invV_apply {s : Shape} (ef : IVec s 32) (j : s.Idx) : invV (F := Ideal) ef j = invS (ef j) := by
  unfold invS
  pointwise [invV]
  rw [select_eq]; rfl

theorem ratio_apply {s : Shape} (r : FVec Ideal s .f32) (j : s.Idx) : ratio r j = r j * Ideal.ofBits .f32 0x3B124925#32 := by
  pointwise [ratio]

theorem clip448_apply {s : Shape} (r : FVec Ideal s .bf16) (j : s.Idx) : clip448 r j = clipS (r j) := by
  unfold clipS
  pointwise [clip448]

/-- The exponent field of a head's row `q`. -/
theorem headEf_apply (v : FVec Ideal S64x512 .bf16) (u : Fin 1) (q : Fin 512) :
    headEf (F := Ideal) v (ix2 u q) = efS (ratioS fun k : Fin 64 => v (ix2 k q)) := by
  rw [headEf, expField_apply, ratio_apply]
  unfold ratioS amaxS
  pointwise []
  rw [bot_bits16]; rfl

/-- A head's code. -/
theorem headCodes_apply (v : FVec Ideal S64x512 .bf16) (d : Fin 64) (q : Fin 512) :
    headCodes (F := Ideal) v (ix2 d q) = codeS (fun k : Fin 64 => v (ix2 k q)) (v (ix2 d q)) := by
  rw [headCodes, clip448_apply]
  unfold codeS
  pointwise [invV_apply]
  rw [headEf_apply]

section
variable (arg2 : Memref sig .tc .vmem S1x512x1280 .bf16) (harg2 : arg2.IsWhole)
  (arg3 : Memref sig .tc .vmem S1x512x128 .bf16) (harg3 : arg3.IsWhole)
  (arg4 : Memref sig .tc .vmem S1x512x128 .bf16) (harg4 : arg4.IsWhole)
  (x0 : Vec Ideal S1x512x1280 .bf16) (x1 : Vec Ideal S1x512x128 .bf16) (x2 : Vec Ideal S1x512x128 .bf16)

/-- One head of a pair, transposed, at an index. -/
theorem head_of (z : Vec Ideal S1x512x128 .bf16) (h : ℕ) (d : Fin 64) (q : Fin 512) :
    extractStridedSlice S64x512 ![64 * (h % 2), 0] (transpose S128x512 [1, 0] (shapeCast S512x128 z shapeCasts_S1x512x128_S512x128)
      transposes_S512x128_p1_0_S128x512) (slices_head h) (ix2 d q) = z (ix3 0 q ⟨64 * (h % 2) + d.val, by omega⟩) := by
  pointwise []

/-- Query head `h`'s element. -/
theorem qHead_apply (h : ℕ) (d : Fin 64) (q : Fin 512) :
    qHead arg2 harg2 x0 h (ix2 d q) = x0 (ix3 0 q ⟨64 * (h % 20) + d.val, by omega⟩) := by
  unfold qHead
  refine (head_of _ h d q).trans ?_
  rw [View.readAt_apply, Memref.IsWhole.read_unread]
  congr 1
  funext a
  fin_cases a <;> apply Fin.ext <;> simp [LoadRect.idx, Rect.toLoadRect, Rect.unit]
  omega

theorem kHead_apply (e : ℕ) (d : Fin 64) (q : Fin 512) :
    kHead arg3 harg3 x1 e (ix2 d q) = x1 (ix3 0 q ⟨64 * (e % 2) + d.val, by omega⟩) := by
  unfold kHead
  refine (head_of _ e d q).trans ?_
  rw [View.readAt_apply, Memref.IsWhole.read_unread]
  congr 1
  funext a
  fin_cases a <;> apply Fin.ext <;> simp [LoadRect.idx, Rect.toLoadRect, Rect.unit]

theorem vIn_apply (s : Fin 512) (d : Fin 128) : vIn arg4 harg4 x2 (ix2 s d) = x2 (ix3 0 s d) := by
  unfold vIn
  pointwise []
  rw [View.readAt_apply, Memref.IsWhole.read_unread]
  congr 1
  funext a
  fin_cases a <;> apply Fin.ext <;> simp [LoadRect.idx, Rect.toLoadRect, Rect.unit]

theorem vCodes_apply (d : Fin 128) (s : Fin 512) :
    vCodes arg4 harg4 x2 (ix2 d s) = codeS (fun k : Fin 512 => x2 (ix3 0 k d)) (x2 (ix3 0 s d)) := by
  rw [vCodes, clip448_apply]
  unfold codeS ratioS amaxS
  pointwise [invV_apply, expField_apply, ratio_apply, vIn_apply]
  rw [bot_bits32]; rfl

theorem vRow_apply (u : Fin 1) (d : Fin 128) :
    vRow arg4 harg4 x2 (ix2 u d) = scaleS (efS (ratioS fun k : Fin 512 => x2 (ix3 0 k d))) := by
  unfold ratioS amaxS
  pointwise [vRow, scaleV_apply, expField_apply, ratio_apply, vIn_apply]
  rw [bot_bits16]; rfl

theorem vRowHead_apply (e : ℕ) (u : Fin 1) (d : Fin 64) :
    vRowHead arg4 harg4 x2 e (ix2 u d) = scaleS (efS (ratioS fun k : Fin 512 => x2 (ix3 0 k ⟨64 * (e % 2) + d.val, by omega⟩))) := by
  unfold vRowHead
  pointwise []
  rw [vRow_apply]

/-- The block's scale of query row `q` of head `h`. -/
def qSc (h : ℕ) (q : Fin 512) : EReal := scaleS (efS (ratioS fun k : Fin 64 => x0 (ix3 0 q ⟨64 * (h % 20) + k.val, by omega⟩)))
/-- The block's code of query row `q` of head `h`. -/
def qCd (h : ℕ) (d : Fin 64) (q : Fin 512) : EReal :=
  codeS (fun k : Fin 64 => x0 (ix3 0 q ⟨64 * (h % 20) + k.val, by omega⟩)) (x0 (ix3 0 q ⟨64 * (h % 20) + d.val, by omega⟩))
/-- The block's scale of row `q` of key head `e`. -/
def kSc (e : ℕ) (q : Fin 512) : EReal := scaleS (efS (ratioS fun k : Fin 64 => x1 (ix3 0 q ⟨64 * (e % 2) + k.val, by omega⟩)))
/-- The block's code of row `q` of key head `e`. -/
def kCd (e : ℕ) (d : Fin 64) (q : Fin 512) : EReal :=
  codeS (fun k : Fin 64 => x1 (ix3 0 q ⟨64 * (e % 2) + k.val, by omega⟩)) (x1 (ix3 0 q ⟨64 * (e % 2) + d.val, by omega⟩))
/-- The block's scale of feature `d` of value head `e`. -/
def vSc (e : ℕ) (d : Fin 64) : EReal := scaleS (efS (ratioS fun k : Fin 512 => x2 (ix3 0 k ⟨64 * (e % 2) + d.val, by omega⟩)))
/-- The block's code of row `s`, feature `d` of value head `e`. -/
def vCd (e : ℕ) (d : Fin 64) (s : Fin 512) : EReal :=
  codeS (fun k : Fin 512 => x2 (ix3 0 k ⟨64 * (e % 2) + d.val, by omega⟩)) (x2 (ix3 0 s ⟨64 * (e % 2) + d.val, by omega⟩))

theorem qCodes_eq (h : ℕ) (d : Fin 64) (q : Fin 512) : headCodes (qHead arg2 harg2 x0 h) (ix2 d q) = qCd x0 h d q := by
  rw [headCodes_apply]; simp only [qHead_apply]; rfl
theorem qScale_eq (h : ℕ) (u : Fin 1) (q : Fin 512) : scaleV (F := Ideal) (headEf (qHead arg2 harg2 x0 h)) (ix2 u q) = qSc x0 h q := by
  rw [scaleV_apply, headEf_apply]; simp only [qHead_apply]; rfl
theorem kCodes_eq (e : ℕ) (d : Fin 64) (q : Fin 512) : headCodes (kHead arg3 harg3 x1 e) (ix2 d q) = kCd x1 e d q := by
  rw [headCodes_apply]; simp only [kHead_apply]; rfl
theorem kScale_eq (e : ℕ) (u : Fin 1) (q : Fin 512) : scaleV (F := Ideal) (headEf (kHead arg3 harg3 x1 e)) (ix2 u q) = kSc x1 e q := by
  rw [scaleV_apply, headEf_apply]; simp only [kHead_apply]; rfl

/-- The named constant of the logit factors. -/
def cFactor : EReal := Named.named (F := Ideal) κ "eighth_log2e" (φ := .f32) 0x3E38AA3B#32

/-! ## Stored pieces read back -/

/-- The query codes read back. -/
theorem qPieces_read {sg : RefSig} {κ' : Kind} {sp : Space} (v : View sg κ' sp S1x20x64x512 .fp8e4m3) (f : v.ty.Contents (Elt Ideal)) :
    ∀ (n : ℕ) (hn : n ≤ 20) (h : Fin 20) (hh : h.val < n) (d : Fin 64) (q : Fin 512),
      v.read (Elt Ideal) (v.writes (Elt Ideal) f (qPieces arg2 harg2 x0 n)) (ix4 0 h d q) = qCd x0 h.val d q := by
  intro n
  induction n with
  | zero => intro _ h hh; exact absurd hh (Nat.not_lt_zero _)
  | succ n ih =>
    intro hn h hh d q
    have hm : n % 20 = n := Nat.mod_eq_of_lt (by omega)
    by_cases e : h.val = n
    · refine (View.read_writes_cons_unit_of_mem v f _ _ _ _ (ix4 0 0 d q) rfl ?_).trans ?_
      · intro a; fin_cases a <;> simp [hm, e]
      · pointwise []
        rw [qCodes_eq, e]
    · refine (View.read_writes_cons_unit_of_not_mem v f _ _ _ _ rfl 1 ?_).trans (ih (by omega) h (by omega) d q)
      simp [S1x1x64x512, hm]; omega

/-- A row times a constant, at an index. -/
theorem scaled_row (a : FVec Ideal S1x512 .f32) (c : Ideal .f32) (q : Fin 512) :
    shapeCast S1x512 (mulf a (broadcast S1x512 c)) shapeCasts_S1x512_S1x512 (ix2 0 q) = a (ix2 0 q) * c := by
  pointwise []

/-- The logit factors read back. -/
theorem cPieces_read {sg : RefSig} {κ' : Kind} {sp : Space} (v : View sg κ' sp S20x512 .f32) (f : v.ty.Contents (Elt Ideal)) :
    ∀ (n : ℕ) (hn : n ≤ 20) (h : Fin 20) (hh : h.val < n) (q : Fin 512),
      v.read (Elt Ideal) (v.writes (Elt Ideal) f (cPieces arg2 harg2 x0 n)) (ix2 h q)
        = qSc x0 h.val q * cFactor := by
  intro n
  induction n with
  | zero => intro _ h hh; exact absurd hh (Nat.not_lt_zero _)
  | succ n ih =>
    intro hn h hh q
    have hm : n % 20 = n := Nat.mod_eq_of_lt (by omega)
    by_cases e : h.val = n
    · refine (View.read_writes_cons_unit_of_mem v f _ _ _ _ (ix2 0 q) rfl ?_).trans ?_
      · intro a; fin_cases a <;> simp [hm, e]
      · refine (scaled_row _ _ q).trans ?_
        rw [qScale_eq, e]; rfl
    · refine (View.read_writes_cons_unit_of_not_mem v f _ _ _ _ rfl 0 ?_).trans (ih (by omega) h (by omega) q)
      simp [S1x512, hm]; omega

/-- The query scales read back: the rows stored, and the rows not stored. -/
theorem qsPieces_read {sg : RefSig} {κ' : Kind} {sp : Space} (v : View sg κ' sp S1x80x512 .f32) (f : v.ty.Contents (Elt Ideal)) (i : grid0.Coords) :
    ∀ (n : ℕ) (hn : n ≤ 20) (r : Fin 80) (q : Fin 512),
      v.read (Elt Ideal) (v.writes (Elt Ideal) f (qsPieces arg2 harg2 x0 i n)) (ix3 0 r q)
        = if 20 * (i 1).val ≤ r.val ∧ r.val < 20 * (i 1).val + n then qSc x0 (r.val - 20 * (i 1).val) q else v.read (Elt Ideal) f (ix3 0 r q) := by
  intro n
  induction n with
  | zero => intro _ r q; rw [if_neg (by omega)]; rfl
  | succ n ih =>
    intro hn r q
    have hm : n % 20 = n := Nat.mod_eq_of_lt (by omega)
    by_cases e : r.val = 20 * (i 1).val + n
    · rw [if_pos (by omega)]
      refine (View.read_writes_cons_unit_of_mem v f _ _ _ _ (ix3 0 0 q) (k0_off3_eq i _) ?_).trans ?_
      · intro a; fin_cases a <;> simp [hm, e]
      · unfold qScalePay
        pointwise []
        rw [qScale_eq, e]; congr 1; omega
    · refine (View.read_writes_cons_unit_of_not_mem v f _ _ _ _ (k0_off3_eq i _) 1 ?_).trans ((ih (by omega) r q).trans ?_)
      · simp [S1x1x512, hm]; omega
      · congr 1; apply propext; omega

/-- The key codes read back. -/
theorem kcPieces_read {sg : RefSig} {κ' : Kind} {sp : Space} (v : View sg κ' sp S1x2x64x512 .fp8e4m3) (f : v.ty.Contents (Elt Ideal))
    (e : Fin 2) (d : Fin 64) (q : Fin 512) :
    v.read (Elt Ideal) (v.writes (Elt Ideal) f (kcPieces arg3 harg3 x1)) (ix4 0 e d q) = kCd x1 e.val d q := by
  have key : ∀ e : ℕ, kcPay arg3 harg3 x1 e (ix4 0 0 d q) = kCd x1 e d q := fun e => by
    unfold kcPay
    pointwise []
    rw [kCodes_eq]
  unfold kcPieces
  fin_cases e
  · refine (View.read_writes_cons_unit_of_not_mem v f _ _ _ _ rfl 1 (by simp)).trans ?_
    refine (View.read_writes_cons_unit_of_mem v f _ _ _ _ (ix4 0 0 d q) rfl ?_).trans (key 0)
    intro a; fin_cases a <;> simp
  · refine (View.read_writes_cons_unit_of_mem v f _ _ _ _ (ix4 0 0 d q) rfl ?_).trans (key 1)
    intro a; fin_cases a <;> simp

/-- The value codes read back. -/
theorem vcPieces_read {sg : RefSig} {κ' : Kind} {sp : Space} (v : View sg κ' sp S1x2x64x512 .fp8e4m3) (f : v.ty.Contents (Elt Ideal))
    (e : Fin 2) (d : Fin 64) (s : Fin 512) :
    v.read (Elt Ideal) (v.writes (Elt Ideal) f (vcPieces arg4 harg4 x2)) (ix4 0 e d s) = vCd x2 e.val d s := by
  unfold vcPieces
  fin_cases e
  · refine (View.read_writes_cons_unit_of_not_mem v f _ _ _ _ rfl 1 (by simp)).trans ?_
    refine (View.read_writes_cons_unit_of_mem v f _ _ _ _ (ix4 0 0 d s) rfl ?_).trans ?_
    · intro a; fin_cases a <;> simp
    · pointwise []
      rw [vCodes_apply]
      simp [vCd]
  · refine (View.read_writes_cons_unit_of_mem v f _ _ _ _ (ix4 0 0 d s) rfl ?_).trans ?_
    · intro a; fin_cases a <;> simp
    · pointwise []
      rw [vCodes_apply]
      simp [vCd]

/-- The key scales read back: the rows stored, and the rows not stored. -/
theorem ksPieces_read {sg : RefSig} {κ' : Kind} {sp : Space} (v : View sg κ' sp S1x8x512 .f32) (f : v.ty.Contents (Elt Ideal)) (i : grid0.Coords)
    (r : Fin 8) (q : Fin 512) :
    v.read (Elt Ideal) (v.writes (Elt Ideal) f (ksPieces arg3 harg3 x1 i)) (ix3 0 r q)
      = if 2 * (i 1).val ≤ r.val ∧ r.val < 2 * (i 1).val + 2 then kSc x1 (r.val - 2 * (i 1).val) q else v.read (Elt Ideal) f (ix3 0 r q) := by
  have key : ∀ e : ℕ, ksPay arg3 harg3 x1 e (ix3 0 0 q) = kSc x1 e q := fun e => by
    unfold ksPay
    pointwise []
    rw [kScale_eq]
  unfold ksPieces
  by_cases e1 : r.val = 2 * (i 1).val + 1
  · rw [if_pos (by omega), show r.val - 2 * (i 1).val = 1 by omega]
    refine (View.read_writes_cons_unit_of_mem v f _ _ _ _ (ix3 0 0 q) (k0_off1_eq i _) ?_).trans (key 1)
    intro a; fin_cases a <;> simp [e1]
  · refine (View.read_writes_cons_unit_of_not_mem v f _ _ _ _ (k0_off1_eq i _) 1 (by simp; omega)).trans ?_
    by_cases e0 : r.val = 2 * (i 1).val
    · rw [if_pos (by omega), show r.val - 2 * (i 1).val = 0 by omega]
      refine (View.read_writes_cons_unit_of_mem v f _ _ _ _ (ix3 0 0 q) (k0_off1_eq i _) ?_).trans (key 0)
      intro a; fin_cases a <;> simp [e0]
    · rw [if_neg (by omega)]
      exact View.read_writes_cons_unit_of_not_mem v f _ _ _ _ (k0_off1_eq i _) 1 (by simp; omega)

/-- The value scales read back: the rows stored, and the rows not stored. -/
theorem vsPieces_read {sg : RefSig} {κ' : Kind} {sp : Space} (v : View sg κ' sp S1x8x64 .f32) (f : v.ty.Contents (Elt Ideal)) (i : grid0.Coords)
    (r : Fin 8) (d : Fin 64) :
    v.read (Elt Ideal) (v.writes (Elt Ideal) f (vsPieces arg4 harg4 x2 i)) (ix3 0 r d)
      = if 2 * (i 1).val ≤ r.val ∧ r.val < 2 * (i 1).val + 2 then vSc x2 (r.val - 2 * (i 1).val) d else v.read (Elt Ideal) f (ix3 0 r d) := by
  have key : ∀ e : ℕ, vsPay arg4 harg4 x2 e (ix3 0 0 d) = vSc x2 e d := fun e => by
    unfold vsPay
    pointwise []
    rw [vRowHead_apply]; rfl
  unfold vsPieces
  by_cases e1 : r.val = 2 * (i 1).val + 1
  · rw [if_pos (by omega), show r.val - 2 * (i 1).val = 1 by omega]
    refine (View.read_writes_cons_unit_of_mem v f _ _ _ _ (ix3 0 0 d) (k0_off2_eq i _) ?_).trans (key 1)
    intro a; fin_cases a <;> simp [e1]
  · refine (View.read_writes_cons_unit_of_not_mem v f _ _ _ _ (k0_off2_eq i _) 1 (by simp; omega)).trans ?_
    by_cases e0 : r.val = 2 * (i 1).val
    · rw [if_pos (by omega), show r.val - 2 * (i 1).val = 0 by omega]
      refine (View.read_writes_cons_unit_of_mem v f _ _ _ _ (ix3 0 0 d) (k0_off2_eq i _) ?_).trans (key 0)
      intro a; fin_cases a <;> simp [e0]
    · rw [if_neg (by omega)]
      exact View.read_writes_cons_unit_of_not_mem v f _ _ _ _ (k0_off2_eq i _) 1 (by simp; omega)

end

end Cert.KI

end
-- ==== Proof.Post.lean ====
/- The kernel's run over the extended reals: the codes and the scales its result arrays hold at the end, element by element. -/
module

public import proofs.«01_k».proof.Proof.Dat
public import proofs.«01_k».proof.Proof.Vals
public import Idealize.ShloMosaic.Lib.Pipeline.ValueKit
public import Idealize.ShloMosaic.Lib.Pipeline.ArrRel

@[expose] public section

set_option maxRecDepth 16384

noncomputable section

namespace Cert.KI

open Cert.KernelIdeal Cert.KernelIdeal.Gen
open Idealize.ShloMosaic Idealize.ShloMosaic.TcCoe Idealize.ShloMosaic.Tactic
open Idealize.ShloMosaic.Pipeline (Dat RDat Cfg Window)
open Cert.Scalar

/-! ## Rows of the arguments -/

/-- Query row `q` of head `h` of batch `b`. -/
def qRow (X : FVec Ideal S3x512x5120 .bf16) (b : Fin 3) (h : Fin 80) (q : Fin 512) : Fin 64 → EReal :=
  fun k => X (ix3 b q ⟨64 * h.val + k.val, by omega⟩)
/-- Key row `q` of head `e` of batch `b`. -/
def kRow (X : FVec Ideal S3x512x512 .bf16) (b : Fin 3) (e : Fin 8) (q : Fin 512) : Fin 64 → EReal :=
  fun k => X (ix3 b q ⟨64 * e.val + k.val, by omega⟩)
/-- Feature `d` of value head `e` of batch `b`, over the keys. -/
def vCol (X : FVec Ideal S3x512x512 .bf16) (b : Fin 3) (e : Fin 8) (d : Fin 64) : Fin 512 → EReal :=
  fun s => X (ix3 b s ⟨64 * e.val + d.val, by omega⟩)

/-- The query codes. -/
def GqC (X : FVec Ideal S3x512x5120 .bf16) : FVec Ideal S3x80x64x512 .fp8e4m3 :=
  fun i => codeS (qRow X (i 0) (i 1) (i 3)) (qRow X (i 0) (i 1) (i 3) (i 2))
/-- The query scales. -/
def GqS (X : FVec Ideal S3x512x5120 .bf16) : FVec Ideal S3x80x512 .f32 :=
  fun i => scaleS (efS (ratioS (qRow X (i 0) (i 1) (i 2))))
/-- The key codes. -/
def GkC (X : FVec Ideal S3x512x512 .bf16) : FVec Ideal S3x8x64x512 .fp8e4m3 :=
  fun i => codeS (kRow X (i 0) (i 1) (i 3)) (kRow X (i 0) (i 1) (i 3) (i 2))
/-- The key scales. -/
def GkS (X : FVec Ideal S3x512x512 .bf16) : FVec Ideal S3x8x512 .f32 :=
  fun i => scaleS (efS (ratioS (kRow X (i 0) (i 1) (i 2))))
/-- The value codes. -/
def GvC (X : FVec Ideal S3x512x512 .bf16) : FVec Ideal S3x8x64x512 .fp8e4m3 :=
  fun i => codeS (vCol X (i 0) (i 1) (i 2)) (vCol X (i 0) (i 1) (i 2) (i 3))
/-- The value scales. -/
def GvS (X : FVec Ideal S3x512x512 .bf16) : FVec Ideal S3x8x64 .f32 :=
  fun i => scaleS (efS (ratioS (vCol X (i 0) (i 1) (i 2))))

variable (m : (ℓ : Loc nD τ sig) → Buf (Elt Ideal) ℓ) (c : Dev nD)

/-- The batch of point `t`. -/
abbrev pb (t : Fin cfg0.N) : Fin 3 := grid0.coords t 0
/-- The head group of point `t`. -/
abbrev pj (t : Fin cfg0.N) : Fin 4 := grid0.coords t 1

/-! ## The input blocks at coordinates -/

theorem idx0 : ∀ t : Fin cfg0.N, win0_0.index t = ![(grid0.coords t 0).val, 0, (grid0.coords t 1).val] := (by decide +kernel : ∀ t : Fin grid0.N, _)
theorem idx1 : ∀ t : Fin cfg0.N, win0_1.index t = ![(grid0.coords t 0).val, 0, (grid0.coords t 1).val] := (by decide +kernel : ∀ t : Fin grid0.N, _)
theorem idx2 : ∀ t : Fin cfg0.N, win0_2.index t = ![(grid0.coords t 0).val, 0, (grid0.coords t 1).val] := (by decide +kernel : ∀ t : Fin grid0.N, _)
theorem idx4 : ∀ t : Fin cfg0.N, win0_4.index t = ![(grid0.coords t 0).val, (grid0.coords t 1).val, 0, 0] := (by decide +kernel : ∀ t : Fin grid0.N, _)
theorem idx5 : ∀ t : Fin cfg0.N, win0_5.index t = ![(grid0.coords t 0).val, 0, 0] := (by decide +kernel : ∀ t : Fin grid0.N, _)
theorem idx6 : ∀ t : Fin cfg0.N, win0_6.index t = ![(grid0.coords t 0).val, (grid0.coords t 1).val, 0, 0] := (by decide +kernel : ∀ t : Fin grid0.N, _)
theorem idx7 : ∀ t : Fin cfg0.N, win0_7.index t = ![(grid0.coords t 0).val, 0, 0] := (by decide +kernel : ∀ t : Fin grid0.N, _)
theorem idx8 : ∀ t : Fin cfg0.N, win0_8.index t = ![(grid0.coords t 0).val, (grid0.coords t 1).val, 0, 0] := (by decide +kernel : ∀ t : Fin grid0.N, _)
theorem idx9 : ∀ t : Fin cfg0.N, win0_9.index t = ![(grid0.coords t 0).val, 0, 0] := (by decide +kernel : ∀ t : Fin grid0.N, _)

theorem iblk0_apply (t : Fin cfg0.N) (q : Fin 512) (x : Fin 1280) (h) :
    iblk m c 0 t (ix3 0 q x) = m ((c : Thread nD τ).loc main_arg0) (ix3 (pb t) q ⟨1280 * (pj t).val + x.val, h⟩) := by
  blk_ext! [iblk, V, idx0 t, pb, pj]
theorem iblk1_apply (t : Fin cfg0.N) (q : Fin 512) (x : Fin 128) (h) :
    iblk m c 1 t (ix3 0 q x) = m ((c : Thread nD τ).loc main_arg1) (ix3 (pb t) q ⟨128 * (pj t).val + x.val, h⟩) := by
  blk_ext! [iblk, V, idx1 t, pb, pj]
theorem iblk2_apply (t : Fin cfg0.N) (q : Fin 512) (x : Fin 128) (h) :
    iblk m c 2 t (ix3 0 q x) = m ((c : Thread nD τ).loc main_arg2) (ix3 (pb t) q ⟨128 * (pj t).val + x.val, h⟩) := by
  blk_ext! [iblk, V, idx2 t, pb, pj]

theorem qRow_block (t : Fin cfg0.N) (h : ℕ) (hh : h < 20) (q : Fin 512) :
    (fun k : Fin 64 => iblk m c 0 t (ix3 0 q ⟨64 * (h % 20) + k.val, by omega⟩))
      = qRow (m ((c : Thread nD τ).loc main_arg0)) (pb t) ⟨20 * (pj t).val + h, by omega⟩ q := by
  funext k
  refine (iblk0_apply m c t q _ (by simp only []; omega)).trans ?_
  unfold qRow
  congr 2
  apply Fin.ext
  simp only []
  omega

theorem kRow_block (t : Fin cfg0.N) (e : ℕ) (he : e < 2) (q : Fin 512) :
    (fun k : Fin 64 => iblk m c 1 t (ix3 0 q ⟨64 * (e % 2) + k.val, by omega⟩))
      = kRow (m ((c : Thread nD τ).loc main_arg1)) (pb t) ⟨2 * (pj t).val + e, by omega⟩ q := by
  funext k
  refine (iblk1_apply m c t q _ (by simp only []; omega)).trans ?_
  unfold kRow
  congr 2
  apply Fin.ext
  simp only []
  omega

theorem vCol_block (t : Fin cfg0.N) (e : ℕ) (he : e < 2) (d : Fin 64) :
    (fun k : Fin 512 => iblk m c 2 t (ix3 0 k ⟨64 * (e % 2) + d.val, by omega⟩))
      = vCol (m ((c : Thread nD τ).loc main_arg2)) (pb t) ⟨2 * (pj t).val + e, by omega⟩ d := by
  funext k
  refine (iblk2_apply m c t k _ (by simp only []; omega)).trans ?_
  unfold vCol
  congr 2
  apply Fin.ext
  simp only []
  omega

/-! ## What the blocks hold at coordinates -/

theorem qCd_block (t : Fin cfg0.N) (h : ℕ) (hh : h < 20) (d : Fin 64) (q : Fin 512) :
    qCd (iblk m c 0 t) h d q = GqC (m ((c : Thread nD τ).loc main_arg0)) (ix4 (pb t) ⟨20 * (pj t).val + h, by omega⟩ d q) := by
  unfold qCd
  rw [show iblk m c 0 t (ix3 0 q ⟨64 * (h % 20) + d.val, by omega⟩) = _ from congrFun (qRow_block m c t h hh q) d]
  exact congrArg (fun R => codeS R _) (qRow_block m c t h hh q)
theorem qSc_block (t : Fin cfg0.N) (h : ℕ) (hh : h < 20) (q : Fin 512) :
    qSc (iblk m c 0 t) h q = GqS (m ((c : Thread nD τ).loc main_arg0)) (ix3 (pb t) ⟨20 * (pj t).val + h, by omega⟩ q) :=
  congrArg (fun R => scaleS (efS (ratioS R))) (qRow_block m c t h hh q)
theorem kCd_block (t : Fin cfg0.N) (e : ℕ) (he : e < 2) (d : Fin 64) (q : Fin 512) :
    kCd (iblk m c 1 t) e d q = GkC (m ((c : Thread nD τ).loc main_arg1)) (ix4 (pb t) ⟨2 * (pj t).val + e, by omega⟩ d q) := by
  unfold kCd
  rw [show iblk m c 1 t (ix3 0 q ⟨64 * (e % 2) + d.val, by omega⟩) = _ from congrFun (kRow_block m c t e he q) d]
  exact congrArg (fun R => codeS R _) (kRow_block m c t e he q)
theorem kSc_block (t : Fin cfg0.N) (e : ℕ) (he : e < 2) (q : Fin 512) :
    kSc (iblk m c 1 t) e q = GkS (m ((c : Thread nD τ).loc main_arg1)) (ix3 (pb t) ⟨2 * (pj t).val + e, by omega⟩ q) :=
  congrArg (fun R => scaleS (efS (ratioS R))) (kRow_block m c t e he q)
theorem vCd_block (t : Fin cfg0.N) (e : ℕ) (he : e < 2) (d : Fin 64) (s : Fin 512) :
    vCd (iblk m c 2 t) e d s = GvC (m ((c : Thread nD τ).loc main_arg2)) (ix4 (pb t) ⟨2 * (pj t).val + e, by omega⟩ d s) := by
  unfold vCd
  rw [show iblk m c 2 t (ix3 0 s ⟨64 * (e % 2) + d.val, by omega⟩) = _ from congrFun (vCol_block m c t e he d) s]
  exact congrArg (fun R => codeS R _) (vCol_block m c t e he d)
theorem vSc_block (t : Fin cfg0.N) (e : ℕ) (he : e < 2) (d : Fin 64) :
    vSc (iblk m c 2 t) e d = GvS (m ((c : Thread nD τ).loc main_arg2)) (ix3 (pb t) ⟨2 * (pj t).val + e, by omega⟩ d) :=
  congrArg (fun R => scaleS (efS (ratioS R))) (vCol_block m c t e he d)

/-! ## The code arrays -/

section
variable (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))
include hL

theorem final4 : ((rdat m c).withAfter after).arrAt 4 cfg0.N = GqC (m ((c : Thread nD τ).loc main_arg0)) := by
  refine ((rdat m c).withAfter after).arrAt_eq_of_covers 4 _ (by decide +kernel) fun t hf y => ?_
  blk_simp
  rw [RDat.withAfter_after]
  obtain ⟨Y, _, f, hX⟩ := hL 4 t hf
  rw [hX]
  obtain ⟨a, h, d, q, rfl⟩ : ∃ (a : Fin 1) (h : Fin 20) (d : Fin 64) (q : Fin 512), y = ix4 a h d q := ⟨y 0, y 1, y 2, y 3, by funext k; fin_cases k <;> rfl⟩
  obtain rfl : a = 0 := Subsingleton.elim _ _
  refine (qPieces_read _ _ _ _ f 20 le_rfl h h.isLt d q).trans ?_
  rw [qCd_block m c t h.val h.isLt]
  blk_ext [idx4 t, pb, pj]

theorem final6 : ((rdat m c).withAfter after).arrAt 6 cfg0.N = GkC (m ((c : Thread nD τ).loc main_arg1)) := by
  refine ((rdat m c).withAfter after).arrAt_eq_of_covers 6 _ (by decide +kernel) fun t hf y => ?_
  blk_simp
  rw [RDat.withAfter_after]
  obtain ⟨Y, _, f, hX⟩ := hL 6 t hf
  rw [hX]
  obtain ⟨a, h, d, q, rfl⟩ : ∃ (a : Fin 1) (h : Fin 2) (d : Fin 64) (q : Fin 512), y = ix4 a h d q := ⟨y 0, y 1, y 2, y 3, by funext k; fin_cases k <;> rfl⟩
  obtain rfl : a = 0 := Subsingleton.elim _ _
  refine (kcPieces_read _ _ _ _ f h d q).trans ?_
  rw [kCd_block m c t h.val h.isLt]
  blk_ext [idx6 t, pb, pj]

theorem final8 : ((rdat m c).withAfter after).arrAt 8 cfg0.N = GvC (m ((c : Thread nD τ).loc main_arg2)) := by
  refine ((rdat m c).withAfter after).arrAt_eq_of_covers 8 _ (by decide +kernel) fun t hf y => ?_
  blk_simp
  rw [RDat.withAfter_after]
  obtain ⟨Y, _, f, hX⟩ := hL 8 t hf
  rw [hX]
  obtain ⟨a, h, d, q, rfl⟩ : ∃ (a : Fin 1) (h : Fin 2) (d : Fin 64) (q : Fin 512), y = ix4 a h d q := ⟨y 0, y 1, y 2, y 3, by funext k; fin_cases k <;> rfl⟩
  obtain rfl : a = 0 := Subsingleton.elim _ _
  refine (vcPieces_read _ _ _ _ f h d q).trans ?_
  rw [vCd_block m c t h.val h.isLt]
  blk_ext [idx8 t, pb, pj]

end

/-! ## The scale arrays: rows accumulate over a batch's four points -/

/-- What holds of a block at a batch's first point, and at each further point if it held at the one before, holds of whatever is left there. -/
theorem leaves_chain (w : Fin cfg0.W) (Q : (t : Fin cfg0.N) → ((cfg0.win w).block.Idx → Elt Ideal (cfg0.win w).elt) → Prop)
    (hfetch : ∀ t, (cfg0.win w).fetch t = false)
    (hflush : ∀ t : Fin cfg0.N, (pj t).val ≠ 0 → t.val ≠ 0 ∧ ∀ h, (cfg0.win w).flush ⟨t.val - 1, h⟩ = false)
    (hs : ∀ (t : Fin cfg0.N) Y X, ((pj t).val ≠ 0 → ∃ h, Q ⟨t.val - 1, h⟩ Y) → (rdat m c).after w t Y X → Q t X) :
    ∀ (n : ℕ) (t : Fin cfg0.N), t.val = n → ∀ X, (rdat m c).Leaves w t X → Q t X := by
  intro n
  induction n with
  | zero =>
    rintro t ht X ⟨Y, _, hX⟩
    refine hs t Y X (fun h => absurd ht (hflush t h).1) hX
  | succ n ih =>
    rintro t ht X ⟨Y, hY, hX⟩
    refine hs t Y X (fun h => ?_) hX
    obtain ⟨h0, h1⟩ := hflush t h
    refine ⟨by omega, ?_⟩
    rcases ((rdat m c).finds_of_pos (hfetch t) h0 Y).1 hY with h2 | h2
    · rw [h1] at h2; exact absurd h2 Bool.false_ne_true
    · exact ih ⟨t.val - 1, by omega⟩ (by simp only []; omega) Y h2

theorem step_facts : ∀ t : Fin cfg0.N, (pj t).val ≠ 0 → t.val ≠ 0 ∧ ∀ h, pb ⟨t.val - 1, h⟩ = pb t ∧ (pj ⟨t.val - 1, h⟩).val + 1 = (pj t).val :=
  (by decide +kernel : ∀ t : Fin grid0.N, _)

theorem flush5 : ∀ t : Fin cfg0.N, win0_5.flush t = true → (pj t).val = 3 := (by decide +kernel : ∀ t : Fin grid0.N, _)
theorem leaves5 (t : Fin cfg0.N) (X) (h : (rdat m c).Leaves 5 t X) (r : Fin 80) (hr : r.val < 20 * (pj t).val + 20) (q : Fin 512) :
    X (ix3 0 r q) = GqS (m ((c : Thread nD τ).loc main_arg0)) (ix3 (pb t) r q) := by
  refine leaves_chain m c 5 (fun t X => ∀ (r : Fin 80), r.val < 20 * (pj t).val + 20 → ∀ q : Fin 512,
    X (ix3 0 r q) = GqS (m ((c : Thread nD τ).loc main_arg0)) (ix3 (pb t) r q))
    (by decide +kernel) (by decide +kernel) ?_ t.val t rfl X h r hr q
  intro t Y X hY hX r hr q
  have hj : (grid0.coords t 1).val = (pj t).val := rfl
  have hX : X = (ms0_5 t).view.read (Elt Ideal) ((ms0_5 t).view.writes (Elt Ideal) ((hs0_5 t).unread Y) (qsL m c t)) := hX
  rw [hX]
  refine (qsPieces_read _ _ _ _ _ _ 20 le_rfl r q).trans ?_
  by_cases hh : 20 * (pj t).val ≤ r.val
  · rw [if_pos ⟨hh, hr⟩, qSc_block m c t _ (by omega)]
    congr 2
    apply Fin.ext
    simp only []
    omega
  · rw [if_neg (fun h => hh h.1), Memref.IsWhole.read_unread]
    obtain ⟨h0, h1⟩ := step_facts t (by omega)
    obtain ⟨h2, h3⟩ := hY (by omega)
    obtain ⟨e1, e2⟩ := h1 h2
    rw [h3 r (by omega) q, e1]

theorem flush7 : ∀ t : Fin cfg0.N, win0_7.flush t = true → (pj t).val = 3 := (by decide +kernel : ∀ t : Fin grid0.N, _)
theorem leaves7 (t : Fin cfg0.N) (X) (h : (rdat m c).Leaves 7 t X) (r : Fin 8) (hr : r.val < 2 * (pj t).val + 2) (q : Fin 512) :
    X (ix3 0 r q) = GkS (m ((c : Thread nD τ).loc main_arg1)) (ix3 (pb t) r q) := by
  refine leaves_chain m c 7 (fun t X => ∀ (r : Fin 8), r.val < 2 * (pj t).val + 2 → ∀ q : Fin 512,
    X (ix3 0 r q) = GkS (m ((c : Thread nD τ).loc main_arg1)) (ix3 (pb t) r q))
    (by decide +kernel) (by decide +kernel) ?_ t.val t rfl X h r hr q
  intro t Y X hY hX r hr q
  have hj : (grid0.coords t 1).val = (pj t).val := rfl
  have hX : X = (ms0_7 t).view.read (Elt Ideal) ((ms0_7 t).view.writes (Elt Ideal) ((hs0_7 t).unread Y) (ksL m c t)) := hX
  rw [hX]
  refine (ksPieces_read _ _ _ _ _ _ r q).trans ?_
  by_cases hh : 2 * (pj t).val ≤ r.val
  · rw [if_pos ⟨hh, hr⟩, kSc_block m c t _ (by omega)]
    congr 2
    apply Fin.ext
    simp only []
    omega
  · rw [if_neg (fun h => hh h.1), Memref.IsWhole.read_unread]
    obtain ⟨h0, h1⟩ := step_facts t (by omega)
    obtain ⟨h2, h3⟩ := hY (by omega)
    obtain ⟨e1, e2⟩ := h1 h2
    rw [h3 r (by omega) q, e1]

theorem flush9 : ∀ t : Fin cfg0.N, win0_9.flush t = true → (pj t).val = 3 := (by decide +kernel : ∀ t : Fin grid0.N, _)
theorem leaves9 (t : Fin cfg0.N) (X) (h : (rdat m c).Leaves 9 t X) (r : Fin 8) (hr : r.val < 2 * (pj t).val + 2) (d : Fin 64) :
    X (ix3 0 r d) = GvS (m ((c : Thread nD τ).loc main_arg2)) (ix3 (pb t) r d) := by
  refine leaves_chain m c 9 (fun t X => ∀ (r : Fin 8), r.val < 2 * (pj t).val + 2 → ∀ d : Fin 64,
    X (ix3 0 r d) = GvS (m ((c : Thread nD τ).loc main_arg2)) (ix3 (pb t) r d))
    (by decide +kernel) (by decide +kernel) ?_ t.val t rfl X h r hr d
  intro t Y X hY hX r hr q
  have hj : (grid0.coords t 1).val = (pj t).val := rfl
  have hX : X = (ms0_9 t).view.read (Elt Ideal) ((ms0_9 t).view.writes (Elt Ideal) ((hs0_9 t).unread Y) (vsL m c t)) := hX
  rw [hX]
  refine (vsPieces_read _ _ _ _ _ _ r q).trans ?_
  by_cases hh : 2 * (pj t).val ≤ r.val
  · rw [if_pos ⟨hh, hr⟩, vSc_block m c t _ (by omega)]
    congr 2
    apply Fin.ext
    simp only []
    omega
  · rw [if_neg (fun h => hh h.1), Memref.IsWhole.read_unread]
    obtain ⟨h0, h1⟩ := step_facts t (by omega)
    obtain ⟨h2, h3⟩ := hY (by omega)
    obtain ⟨e1, e2⟩ := h1 h2
    rw [h3 r (by omega) q, e1]

section
variable (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))
include hL

theorem final5 : ((rdat m c).withAfter after).arrAt 5 cfg0.N = GqS (m ((c : Thread nD τ).loc main_arg0)) := by
  refine ((rdat m c).withAfter after).arrAt_eq_of_covers 5 _ (by decide +kernel) fun t hf y => ?_
  blk_simp
  rw [RDat.withAfter_after]
  obtain ⟨a, h, q, rfl⟩ : ∃ (a : Fin 1) (h : Fin 80) (q : Fin 512), y = ix3 a h q := ⟨y 0, y 1, y 2, by funext k; fin_cases k <;> rfl⟩
  obtain rfl : a = 0 := Subsingleton.elim _ _
  refine (leaves5 m c t _ (hL 5 t hf) h (by rw [flush5 t hf]; omega) q).trans ?_
  blk_ext [idx5 t, pb, pj]

theorem final7 : ((rdat m c).withAfter after).arrAt 7 cfg0.N = GkS (m ((c : Thread nD τ).loc main_arg1)) := by
  refine ((rdat m c).withAfter after).arrAt_eq_of_covers 7 _ (by decide +kernel) fun t hf y => ?_
  blk_simp
  rw [RDat.withAfter_after]
  obtain ⟨a, h, q, rfl⟩ : ∃ (a : Fin 1) (h : Fin 8) (q : Fin 512), y = ix3 a h q := ⟨y 0, y 1, y 2, by funext k; fin_cases k <;> rfl⟩
  obtain rfl : a = 0 := Subsingleton.elim _ _
  refine (leaves7 m c t _ (hL 7 t hf) h (by rw [flush7 t hf]; omega) q).trans ?_
  blk_ext [idx7 t, pb, pj]

theorem final9 : ((rdat m c).withAfter after).arrAt 9 cfg0.N = GvS (m ((c : Thread nD τ).loc main_arg2)) := by
  refine ((rdat m c).withAfter after).arrAt_eq_of_covers 9 _ (by decide +kernel) fun t hf y => ?_
  blk_simp
  rw [RDat.withAfter_after]
  obtain ⟨a, h, q, rfl⟩ : ∃ (a : Fin 1) (h : Fin 8) (q : Fin 64), y = ix3 a h q := ⟨y 0, y 1, y 2, by funext k; fin_cases k <;> rfl⟩
  obtain rfl : a = 0 := Subsingleton.elim _ _
  refine (leaves9 m c t _ (hL 9 t hf) h (by rw [flush9 t hf]; omega) q).trans ?_
  blk_ext [idx9 t, pb, pj]

end

end Cert.KI

end
-- ==== Proof.Rows.lean ====
/- Over a row of finite numbers the kernel's bisected scale is the reference's, and so are the codes. -/
module

public import proofs.«01_k».proof.Proof.Scalar

@[expose] public section

noncomputable section

namespace Cert.Scalar

open Idealize.ShloMosaic

/-- A number of the precondition: its magnitude is at most the greatest finite bf16. -/
def Fin16 (x : EReal) : Prop := max x (-x) ≤ ((255 * 2 ^ 120 : ℝ) : EReal)

/-- Such a number is real. -/
theorem Fin16.real {x : EReal} (h : Fin16 x) : ∃ r : ℝ, x = (r : EReal) := by
  unfold Fin16 at h
  induction x with
  | bot => exact absurd h (not_le.2 (by rw [EReal.neg_bot, max_eq_right bot_le]; exact EReal.coe_lt_top _))
  | top => exact absurd h (not_le.2 (by rw [max_eq_left le_top]; exact EReal.coe_lt_top _))
  | coe r => exact ⟨r, rfl⟩

theorem ratio_const : Ideal.ofBits .f32 0x3B124925#32 = ((9586981 * 2 ^ (-32 : ℤ) : ℝ) : EReal) := by
  simp [Ideal.ofBits, Ideal.ieee]

theorem max_bits : Ideal.ofBits .f32 0x43E00000#32 = ((448 : ℝ) : EReal) := by
  simp [Ideal.ofBits, Ideal.ieee]
  rw [← EReal.coe_mul]
  norm_num

theorem min_bits : Ideal.ofBits .f32 0xC3E00000#32 = ((-448 : ℝ) : EReal) := by
  simp [Ideal.ofBits, Ideal.ieee]
  rw [← EReal.coe_mul]
  norm_num

/-- The bound of the precondition. -/
theorem bound_bits : Ideal.ofBits .f32 0x7F7F0000#32 = ((255 * 2 ^ 120 : ℝ) : EReal) := by
  simp [Ideal.ofBits, Ideal.ieee]
  exact_mod_cast (by norm_num : (16711680 * 2 ^ 104 : ℝ) = 255 * 2 ^ 120)

/-- The greatest magnitude of a row of finite numbers is a real in range. -/
theorem amax_real {n : ℕ} (hn : 0 < n) (row : Fin n → EReal) (h : ∀ k, Fin16 (row k)) :
    ∃ a : ℝ, amaxS row = (a : EReal) ∧ 0 ≤ a ∧ a ≤ 255 * 2 ^ 120 := by
  have hle : amaxS row ≤ ((255 * 2 ^ 120 : ℝ) : EReal) :=
    (Finset.fold_max_le _).2 ⟨bot_le, fun k _ => h k⟩
  have hge : (0 : EReal) ≤ amaxS row := by
    refine (Finset.le_fold_max _).2 (Or.inr ⟨⟨0, hn⟩, Finset.mem_univ _, ?_⟩)
    obtain ⟨r, hr⟩ := (h ⟨0, hn⟩).real
    rw [hr]
    rcases le_total 0 r with h0 | h0
    · exact le_max_of_le_left (by exact_mod_cast h0)
    · exact le_max_of_le_right (by rw [← EReal.coe_neg]; exact_mod_cast neg_nonneg.2 h0)
  generalize amaxS row = A at hle hge
  induction A with
  | bot => simp at hge
  | top => exact absurd hle (not_le.2 (EReal.coe_lt_top _))
  | coe a => exact ⟨a, rfl, by exact_mod_cast hge, by exact_mod_cast hle⟩

/-- The ratio of such a row is a real in the range the bisection covers. -/
theorem ratio_real {n : ℕ} (hn : 0 < n) (row : Fin n → EReal) (h : ∀ k, Fin16 (row k)) :
    ∃ r : ℝ, ratioS row = (r : EReal) ∧ 0 ≤ r ∧ r < (2 : ℝ) ^ (120 : ℤ) := by
  obtain ⟨a, ha, h0, h1⟩ := amax_real hn row h
  refine ⟨a * (9586981 * 2 ^ (-32 : ℤ)), ?_, by positivity, ?_⟩
  · unfold ratioS
    rw [ha, ratio_const, ← EReal.coe_mul]
  · calc a * (9586981 * 2 ^ (-32 : ℤ)) ≤ (255 * 2 ^ 120) * (9586981 * 2 ^ (-32 : ℤ)) := by gcongr
      _ < _ := by norm_num

/-- The two scales of such a row agree: a power of two. -/
theorem scale_real {n : ℕ} (hn : 0 < n) (row : Fin n → EReal) (h : ∀ k, Fin16 (row k)) :
    ∃ e : ℤ, scaleS (efS (ratioS row)) = (((2 : ℝ) ^ e : ℝ) : EReal) ∧ refScale (ratioS row) = (((2 : ℝ) ^ e : ℝ) : EReal)
      ∧ invS (efS (ratioS row)) = (((2 : ℝ) ^ (-e) : ℝ) : EReal) := by
  obtain ⟨r, hr, h0, h1⟩ := ratio_real hn row h
  rw [hr]
  exact ⟨expo r, (scale_inv r h0 h1).1, refScale_eq r h0, (scale_inv r h0 h1).2⟩

theorem scale_eq {n : ℕ} (hn : 0 < n) (row : Fin n → EReal) (h : ∀ k, Fin16 (row k)) :
    scaleS (efS (ratioS row)) = refScale (ratioS row) := by
  obtain ⟨e, h1, h2, _⟩ := scale_real hn row h
  rw [h1, h2]

/-- The reference's code of an element of a row. -/
def refCode {n : ℕ} (row : Fin n → EReal) (x : EReal) : EReal :=
  min (max (Ideal.div x (refScale (ratioS row))) (Ideal.ofBits .f32 0xC3E00000#32)) (Ideal.ofBits .f32 0x43E00000#32)

/-- The two codes of a finite number of such a row agree: dividing by a power of two is multiplying by its inverse. -/
theorem code_eq {n : ℕ} (hn : 0 < n) (row : Fin n → EReal) (h : ∀ k, Fin16 (row k)) (x : EReal) (hx : Fin16 x) :
    codeS row x = refCode row x := by
  obtain ⟨e, _, h2, h3⟩ := scale_real hn row h
  obtain ⟨r, rfl⟩ := hx.real
  have hne : ((2 : ℝ) ^ e) ≠ 0 := by positivity
  unfold codeS refCode clipS
  rw [h2, h3, min_comm, max_comm]
  congr 2
  unfold Ideal.div
  rw [if_neg (by exact_mod_cast hne), zpow_neg, EReal.coe_inv]

/-- A code of such a row is a real between −448 and 448. -/
theorem code_real {n : ℕ} (row : Fin n → EReal) (x : EReal) : ∃ c : ℝ, codeS row x = (c : EReal) := by
  unfold codeS clipS
  rw [max_bits, min_bits]
  have h1 : min ((448 : ℝ) : EReal) (max ((-448 : ℝ) : EReal) (x * invS (efS (ratioS row)))) ≤ ((448 : ℝ) : EReal) := min_le_left _ _
  have h2 : ((-448 : ℝ) : EReal) ≤ min ((448 : ℝ) : EReal) (max ((-448 : ℝ) : EReal) (x * invS (efS (ratioS row)))) :=
    le_min (by exact_mod_cast (by norm_num : (-448 : ℝ) ≤ 448)) (le_max_left _ _)
  generalize min ((448 : ℝ) : EReal) (max ((-448 : ℝ) : EReal) (x * invS (efS (ratioS row)))) = A at h1 h2
  induction A with
  | bot => simp at h2
  | top => simp at h1
  | coe a => exact ⟨a, rfl⟩

end Cert.Scalar

end
-- ==== Proof.Core.lean ====
/- One result of attention over the extended reals: the kernel's arithmetic (base-two exponentials, scale applied last) and the
   reference's give one number. -/
module

public import proofs.«01_k».proof.Proof.Rows

@[expose] public section

noncomputable section

namespace Cert.Scalar

open Idealize.ShloMosaic

/-- An attention logit of the reference: the code product, both scales, one eighth. -/
def refLogit {n : ℕ} (T : Fin n → EReal) (qs : EReal) (ks : Fin n → EReal) (s : Fin n) : EReal :=
  T s * qs * ks s * Ideal.ofBits .f32 0x3E000000#32

/-- A weight of the reference: the exponential of the logit less the greatest. -/
def refWeight {n : ℕ} (T : Fin n → EReal) (qs : EReal) (ks : Fin n → EReal) (s : Fin n) : EReal :=
  Ideal.exp (refLogit T qs ks s - Finset.univ.fold max ⊥ (refLogit T qs ks))

/-- One result of the reference: the weights' codes times the value codes, rescaled, over the sum of the weights. -/
def refAttn {n : ℕ} (T : Fin n → EReal) (qs : EReal) (ks vc : Fin n → EReal) (vs : EReal) : EReal :=
  Ideal.div ((∑ s, vc s * min (max (refWeight T qs ks s * Ideal.ofBits .f32 0x43800000#32) (Ideal.ofBits .f32 0x00000000#32)) (Ideal.ofBits .f32 0x43E00000#32))
    * (vs * Ideal.ofBits .f32 0x3B800000#32)) (∑ s, refWeight T qs ks s)

/-- A weight of the kernel: two to the scaled score less the greatest, times 256. -/
def kerWeight {n : ℕ} (T : Fin n → EReal) (c : EReal) (ks : Fin n → EReal) (s : Fin n) : EReal :=
  Ideal.exp2 (T s * ks s * c - (Finset.univ.fold max ⊥ (fun s => T s * ks s) * c - Ideal.ofBits .f32 0x41000000#32))

/-- One result of the kernel. -/
def kerAttn {n : ℕ} (T : Fin n → EReal) (c : EReal) (ks vc : Fin n → EReal) (vs : EReal) : EReal :=
  Ideal.div (∑ s, vc s * min (Ideal.ofBits .f32 0x43E00000#32) (max (Ideal.ofBits .f32 0x00000000#32) (kerWeight T c ks s)))
    (∑ s, kerWeight T c ks s) * vs

theorem eighth_bits : Ideal.ofBits .f32 0x3E000000#32 = ((1 / 8 : ℝ) : EReal) := by
  simp [Ideal.ofBits, Ideal.ieee]
  rw [← EReal.coe_mul]; norm_num

theorem p256_bits : Ideal.ofBits .f32 0x43800000#32 = ((256 : ℝ) : EReal) := by
  simp [Ideal.ofBits, Ideal.ieee]
  rw [← EReal.coe_mul]; norm_num

theorem inv256_bits : Ideal.ofBits .f32 0x3B800000#32 = ((1 / 256 : ℝ) : EReal) := by
  simp [Ideal.ofBits, Ideal.ieee]
  rw [← EReal.coe_mul]; norm_num

theorem eight_bits : Ideal.ofBits .f32 0x41000000#32 = ((8 : ℝ) : EReal) := by
  simp [Ideal.ofBits, Ideal.ieee]
  rw [← EReal.coe_mul]; norm_num

theorem zero32_bits : Ideal.ofBits .f32 0x00000000#32 = ((0 : ℝ) : EReal) := by
  simp [Ideal.ofBits, Ideal.ieee]

/-- A sum of reals, read in the extended reals. -/
theorem sum_coe {n : ℕ} (f : Fin n → ℝ) : ∑ s, (f s : EReal) = ((∑ s, f s : ℝ) : EReal) := by
  classical
  have h : ∀ S : Finset (Fin n), ∑ s ∈ S, (f s : EReal) = ((∑ s ∈ S, f s : ℝ) : EReal) := by
    intro S
    induction S using Finset.induction_on with
    | empty => rw [Finset.sum_empty, Finset.sum_empty]; rfl
    | insert a S ha ih => rw [Finset.sum_insert ha, Finset.sum_insert ha, ih, EReal.coe_add]
  exact h _

/-- The greatest of finitely many reals is the one at an index that bounds the rest. -/
theorem fold_coe {n : ℕ} (f : Fin n → ℝ) (s0 : Fin n) (h : ∀ s, f s ≤ f s0) :
    Finset.univ.fold max (⊥ : EReal) (fun s => (f s : EReal)) = (f s0 : EReal) := by
  refine le_antisymm ((Finset.fold_max_le _).2 ⟨bot_le, fun s _ => EReal.coe_le_coe_iff.2 (h s)⟩) ?_
  exact (Finset.le_fold_max _).2 (Or.inr ⟨s0, Finset.mem_univ _, le_rfl⟩)

/-- The two results agree where the score products, the scales and the value codes are real and the query scale positive. -/
theorem attn_eq {n : ℕ} (hn : 0 < n) (T ks vc : Fin n → ℝ) (q v : ℝ) (hq : 0 < q) :
    kerAttn (fun s => (T s : EReal)) ((q : EReal) * ((1 / 8 * (Real.log 2)⁻¹ : ℝ) : EReal)) (fun s => (ks s : EReal)) (fun s => (vc s : EReal)) (v : EReal)
      = refAttn (fun s => (T s : EReal)) (q : EReal) (fun s => (ks s : EReal)) (fun s => (vc s : EReal)) (v : EReal) := by
  obtain ⟨s0, -, hs0⟩ := Finset.exists_max_image (Finset.univ : Finset (Fin n)) (fun s => T s * ks s) ⟨⟨0, hn⟩, Finset.mem_univ _⟩
  have hs0' : ∀ s, T s * ks s ≤ T s0 * ks s0 := fun s => hs0 s (Finset.mem_univ _)
  have hL : 0 < Real.log 2 := Real.log_pos one_lt_two
  set w : Fin n → ℝ := fun s => Real.exp ((T s * ks s - T s0 * ks s0) * (q / 8)) with hw
  have hw0 : ∀ s, 0 < w s := fun s => Real.exp_pos _
  have hw1 : ∀ s, w s ≤ 1 := fun s => Real.exp_le_one_iff.2 (mul_nonpos_of_nonpos_of_nonneg (sub_nonpos.2 (hs0' s)) (by positivity))
  have hlog : ∀ s, refLogit (fun s => (T s : EReal)) (q : EReal) (fun s => (ks s : EReal)) s = ((T s * q * ks s * (1 / 8) : ℝ) : EReal) := by
    intro s
    simp only [refLogit, eighth_bits, ← EReal.coe_mul]
  have hR : ∀ s, refWeight (fun s => (T s : EReal)) (q : EReal) (fun s => (ks s : EReal)) s = (w s : EReal) := by
    intro s
    have hf : Finset.univ.fold max ⊥ (refLogit (fun s => (T s : EReal)) (q : EReal) (fun s => (ks s : EReal))) = ((T s0 * q * ks s0 * (1 / 8) : ℝ) : EReal) := by
      rw [show refLogit (fun s => (T s : EReal)) (q : EReal) (fun s => (ks s : EReal)) = fun s => ((T s * q * ks s * (1 / 8) : ℝ) : EReal) from funext hlog]
      refine fold_coe (fun s => T s * q * ks s * (1 / 8)) s0 fun s => ?_
      have := mul_le_mul_of_nonneg_right (hs0' s) (show (0 : ℝ) ≤ q / 8 by positivity)
      show T s * q * ks s * (1 / 8) ≤ T s0 * q * ks s0 * (1 / 8)
      nlinarith [this]
    unfold refWeight
    rw [hf, hlog, ← EReal.coe_sub, Ideal.exp_coe]
    congr 2
    ring
  have hK : ∀ s, kerWeight (fun s => (T s : EReal)) ((q : EReal) * ((1 / 8 * (Real.log 2)⁻¹ : ℝ) : EReal)) (fun s => (ks s : EReal)) s = ((256 * w s : ℝ) : EReal) := by
    intro s
    unfold kerWeight
    simp only [← EReal.coe_mul]
    rw [fold_coe (fun s => T s * ks s) s0 hs0', eight_bits, ← EReal.coe_mul, ← EReal.coe_sub, ← EReal.coe_sub, Ideal.exp2_coe]
    congr 1
    show (2 : ℝ) ^ (_ : ℝ) = _
    rw [Real.rpow_def_of_pos two_pos]
    have h256 : (256 : ℝ) = Real.exp (Real.log 2 * 8) := by
      rw [Real.exp_mul, Real.exp_log two_pos]; norm_num
    rw [h256, hw, ← Real.exp_add]
    congr 1
    field_simp
    ring
  have hl : 0 < ∑ s, w s := Finset.sum_pos (fun s _ => hw0 s) ⟨⟨0, hn⟩, Finset.mem_univ _⟩
  have hl2 : ∑ s, 256 * w s = 256 * ∑ s, w s := (Finset.mul_sum _ _ _).symm
  have hA : ∀ s, min ((448 : ℝ) : EReal) (max ((0 : ℝ) : EReal) ((256 * w s : ℝ) : EReal)) = ((256 * w s : ℝ) : EReal) := by
    intro s
    rw [max_eq_right (EReal.coe_le_coe_iff.2 (by have := hw0 s; positivity)), min_eq_right (EReal.coe_le_coe_iff.2 (by have := hw1 s; linarith))]
  have hB : ∀ s, min (max ((w s : EReal) * ((256 : ℝ) : EReal)) ((0 : ℝ) : EReal)) ((448 : ℝ) : EReal) = ((256 * w s : ℝ) : EReal) := by
    intro s
    rw [← EReal.coe_mul, mul_comm (w s), min_comm, max_comm, hA]
  unfold kerAttn refAttn
  simp only [hR, hK, zero32_bits, max_bits, p256_bits, inv256_bits, hA, hB]
  simp only [← EReal.coe_mul, sum_coe]
  have hV : ∑ s, vc s * (256 * w s) = 256 * ∑ s, vc s * w s := by
    rw [Finset.mul_sum]; exact Finset.sum_congr rfl fun s _ => by ring
  rw [hl2, hV, Ideal.div_coe (by positivity), Ideal.div_coe hl.ne']
  simp only [← EReal.coe_mul]
  congr 1
  field_simp

end Cert.Scalar

end
-- ==== Proof.Attn.lean ====
/- The kernel's attention over the extended reals, at an index: scores, weights, sums and the stored output, read back through
   the buffers they pass. -/
module

public import proofs.«01_k».proof.Proof.Vals
public import proofs.«01_k».proof.Proof.Core

@[expose] public section

noncomputable section

namespace Cert.KI

open Cert.KernelIdeal Cert.KernelIdeal.Gen
open Idealize.ShloMosaic Idealize.ShloMosaic.TcCoe Idealize.ShloMosaic.Tactic
open Cert.Scalar

/-- The scores of a block of queries: products of codes summed over the features. -/
theorem raw_of (A : FVec Ideal S1x512x64 .fp8e4m3) (B : FVec Ideal S1x1x64x256 .fp8e4m3) (s : Fin 512) (q : Fin 256) :
    matmul dot_S512x64_S64x256_S512x256_1_0_0_1_n_n none (shapeCast S512x64 A shapeCasts_S1x512x64_S512x64)
      (shapeCast S64x256 B shapeCasts_S1x1x64x256_S64x256) (constant S512x256 .f32 0x00000000#32) (ix2 s q)
      = ∑ k : Fin 64, A (ix3 0 s k) * B (ix4 0 0 k q) := by
  pointwise []

/-- A lane tile of the scores times the key scales. -/
theorem scaled_of (A : FVec Ideal S512x256 .f32) (B : FVec Ideal S1x512x128 .f32) (l : ℕ) (s : Fin 512) (x : Fin 128) :
    mulf (extractStridedSlice S512x128 ![0, 128 * (l % 2)] A (slices_lane l)) (shapeCast S512x128 B shapeCasts_S1x512x128_S512x128) (ix2 s x)
      = A (ix2 s ⟨128 * (l % 2) + x.val, by omega⟩) * B (ix3 0 s x) := by
  pointwise []

/-- The weights of a lane tile from its scaled scores. -/
theorem weight_of (A : FVec Ideal S1x1x512x128 .f32) (C : FVec Ideal S1x128 .f32) (T : FVec Ideal S512x128 .f32) (s : Fin 512) (x : Fin 128) :
    exp2 (subf (mulf (shapeCast S512x128 A shapeCasts_S1x1x512x128_S512x128) (broadcastTo S512x128 C broadcasts_S1x128_S512x128))
      (broadcastTo S512x128 (subf (mulf (shapeCast S1x128 (multiReduction .maximumf [0] S128 T 0xFF800000#32
        reduces_S512x128_S128 (.inl rfl) rfl) shapeCasts_S128_S1x128) C)
      (broadcast S1x128 (Scalar.ofBits .f32 0x41000000#32))) broadcasts_S1x128_S512x128)) (ix2 s x)
      = Ideal.exp2 (A (ix4 0 0 s x) * C (ix2 0 x) - (Finset.univ.fold max ⊥ (fun s => T (ix2 s x)) * C (ix2 0 x) - Ideal.ofBits .f32 0x41000000#32)) := by
  pointwise []
  rw [bot_bits32]
  rfl

/-- The sums of a lane tile over the keys. -/
theorem sum_of (P : FVec Ideal S512x128 .f32) (u : Fin 1) (x : Fin 128) :
    shapeCast S1x128 (multiReduction .add [0] S128 P 0x00000000#32 reduces_S512x128_S128 (.inl rfl) rfl) shapeCasts_S128_S1x128 (ix2 u x)
      = ∑ s : Fin 512, P (ix2 s x) := by
  pointwise []

/-- The codes of a lane tile's weights. -/
theorem code_of (P : FVec Ideal S512x128 .f32) (s : Fin 512) (x : Fin 128) :
    shapeCast S1x512x128 (truncf .fp8e4m3 (minimumf (broadcast S512x128 (Scalar.ofBits .f32 0x43E00000#32))
        (maximumf (broadcast S512x128 (Scalar.ofBits .f32 0x00000000#32)) P)) bitsLt_fp8e4m3_f32) shapeCasts_S512x128_S1x512x128 (ix3 0 s x)
      = min (Ideal.ofBits .f32 0x43E00000#32) (max (Ideal.ofBits .f32 0x00000000#32) (P (ix2 s x))) := by
  pointwise []

/-- The weighted sums over the sums of the weights. -/
theorem normal_of (A : FVec Ideal S1x1x64x512 .fp8e4m3) (B : FVec Ideal S1x512x256 .fp8e4m3) (L0 L1 : FVec Ideal S1x128 .f32) (l : Fin 2) (x : Fin 128) (d : Fin 64) :
    truncf .bf16 (divf (matmul dot_S64x512_S512x256_S64x256_1_0_0_1_n_n none (shapeCast S64x512 A shapeCasts_S1x1x64x512_S64x512)
        (shapeCast S512x256 B shapeCasts_S1x512x256_S512x256) (constant S64x256 .f32 0x00000000#32))
      (broadcastTo S64x256 (concatenate S1x256 1 [⟨S1x128, L0⟩, ⟨S1x128, L1⟩] concatenates_S1x128_S1x128_S1x256_d1) broadcasts_S1x256_S64x256)) bitsLt_bf16_f32
      (ix2 d ⟨128 * l.val + x.val, by omega⟩)
      = Ideal.div (∑ s : Fin 512, A (ix4 0 0 d s) * B (ix3 0 s ⟨128 * l.val + x.val, by omega⟩)) ((if l.val = 0 then L0 else L1) (ix2 0 x)) := by
  fin_cases l
  · pointwise []
  · pointwise []

/-- A stored block: one of a pair of heads, its queries as rows, times the value scales. -/
theorem block_of (O0 O1 : FVec Ideal S64x256 .bf16) (V : FVec Ideal S1x64 .f32) (p : Fin 2) (q : Fin 256) (d : Fin 64) :
    shapeCast S1x256x128 (mulf (transpose S256x128 [1, 0] (concatenate S128x256 0 [⟨S64x256, O0⟩, ⟨S64x256, O1⟩] concatenates_S64x256_S64x256_S128x256_d0)
        transposes_S128x256_p1_0_S256x128) (broadcastTo S256x128 (truncf .bf16 (concatenate S1x128 1 [⟨S1x64, V⟩, ⟨S1x64, V⟩] concatenates_S1x64_S1x64_S1x128_d1) bitsLt_bf16_f32)
        broadcasts_S1x128_S256x128)) shapeCasts_S256x128_S1x256x128 (ix3 0 q ⟨64 * p.val + d.val, by omega⟩)
      = (if p.val = 0 then O0 else O1) (ix2 d q) * V (ix2 0 d) := by
  fin_cases p
  · pointwise []
  · pointwise []

/-! ## What the buffers hold -/

/-- A load of what is covered reads the buffer the stores left. -/
theorem readCov_at {sg : RefSig} {κ' : Kind} {sp : Space} {s : Shape} {e : EltTy} (v : View sg κ' sp s e) (L : List (View.Piece (Elt Ideal) s e))
    (B : LoadRect s) (y : B.shape.Idx) :
    v.readCov L B y = v.read (Elt Ideal) (v.writes (Elt Ideal) v.junk L) (B.idx y) := by
  rw [View.readCov_eq_canon' v L B, View.read_writes_junk_eq_canon v L]

section
variable (arg2 : Memref sig .tc .vmem S1x512x1280 .bf16) (harg2 : arg2.IsWhole)
  (arg3 : Memref sig .tc .vmem S1x512x128 .bf16) (harg3 : arg3.IsWhole)
  (arg4 : Memref sig .tc .vmem S1x512x128 .bf16) (harg4 : arg4.IsWhole)
  (arg6 : Memref sig .tc .vmem S1x20x64x512 .fp8e4m3) (arg10 : Memref sig .tc .vmem S1x2x64x512 .fp8e4m3)
  (arg12 : Memref sig .tc .vmem S2x512x64 .fp8e4m3) (arg13 : Memref sig .tc .vmem S2x512x128 .f32)
  (arg14 : Memref sig .tc .vmem S20x512 .f32) (arg15 : Memref sig .tc .vmem S2x2x512x128 .f32)
  (arg16 : Memref sig .tc .vmem S2x512x256 .fp8e4m3)
  (x0 : Vec Ideal S1x512x1280 .bf16) (x1 : Vec Ideal S1x512x128 .bf16) (x2 : Vec Ideal S1x512x128 .bf16)

theorem knAll_apply (s : Fin 512) (e : Fin 2) (d : Fin 64) :
    knAll arg3 harg3 x1 (ix2 s ⟨64 * e.val + d.val, by omega⟩) = kCd x1 e.val d s := by
  unfold knAll
  rw [← kCodes_eq arg3 harg3]
  generalize e1 : headCodes (kHead arg3 harg3 x1 0) = A
  generalize e2 : headCodes (kHead arg3 harg3 x1 1) = B
  fin_cases e
  · pointwise []
    rw [← e1]
  · pointwise []
    rw [← e2]

/-- The key codes kept for the scores, read back. -/
theorem knPieces_read {sg : RefSig} {κ' : Kind} {sp : Space} (v : View sg κ' sp S2x512x64 .fp8e4m3) (f : v.ty.Contents (Elt Ideal))
    (e : Fin 2) (s : Fin 512) (d : Fin 64) :
    v.read (Elt Ideal) (v.writes (Elt Ideal) f (knPieces arg3 harg3 x1)) (ix3 e s d) = kCd x1 e.val d s := by
  have h := knAll_apply arg3 harg3 x1 s e d
  unfold knPieces
  generalize knAll arg3 harg3 x1 = A at h
  fin_cases e
  · refine (View.read_writes_cons_unit_of_not_mem v f _ _ _ _ rfl 0 (by simp)).trans ?_
    refine (View.read_writes_cons_unit_of_mem v f _ _ _ _ (ix3 0 s d) rfl ?_).trans ?_
    · intro a; fin_cases a <;> simp
    · pointwise []
      simpa using h
  · refine (View.read_writes_cons_unit_of_mem v f _ _ _ _ (ix3 0 s d) rfl ?_).trans ?_
    · intro a; fin_cases a <;> simp
    · pointwise []
      simpa using h

theorem kcolPay_apply (e : ℕ) (s : Fin 512) (x : Fin 128) : kcolPay arg3 harg3 x1 e (ix3 0 s x) = kSc x1 e s := by
  rw [← kScale_eq arg3 harg3 x1 e 0 s]
  unfold kcolPay
  generalize scaleV (F := Ideal) (headEf (kHead arg3 harg3 x1 e)) = A
  pointwise []

/-- The key scales kept for the scores, read back. -/
theorem kcolPieces_read {sg : RefSig} {κ' : Kind} {sp : Space} (v : View sg κ' sp S2x512x128 .f32) (f : v.ty.Contents (Elt Ideal))
    (e : Fin 2) (s : Fin 512) (x : Fin 128) :
    v.read (Elt Ideal) (v.writes (Elt Ideal) f (kcolPieces arg3 harg3 x1)) (ix3 e s x) = kSc x1 e.val s := by
  unfold kcolPieces
  fin_cases e
  · refine (View.read_writes_cons_unit_of_not_mem v f _ _ _ _ rfl 0 (by simp)).trans ?_
    refine (View.read_writes_cons_unit_of_mem v f _ _ _ _ (ix3 0 s x) rfl ?_).trans (kcolPay_apply arg3 harg3 x1 0 s x)
    intro a; fin_cases a <;> simp
  · refine (View.read_writes_cons_unit_of_mem v f _ _ _ _ (ix3 0 s x) rfl ?_).trans (kcolPay_apply arg3 harg3 x1 1 s x)
    intro a; fin_cases a <;> simp

/-- The products of the codes of query row `q` of head `h` with every key's, key head `e`. -/
def kT (e h : ℕ) (q : Fin 512) (s : Fin 512) : EReal := ∑ k : Fin 64, kCd x1 e k s * qCd x0 h k q

/-- The query row of column `x` of unit `u`. -/
abbrev uq (u : ℕ) (x : Fin 256) : Fin 512 := ⟨256 * (u % 2) + x.val, by omega⟩

theorem rawV_apply (u : ℕ) (s : Fin 512) (x : Fin 256) :
    rawV arg2 harg2 arg3 harg3 arg6 arg12 x0 x1 u (ix2 s x) = kT x0 x1 (u / 20 % 2) (u / 2 % 20) (uq u x) s := by
  unfold rawV
  refine (raw_of _ _ s x).trans ?_
  refine Finset.sum_congr rfl fun k _ => ?_
  refine congrArg₂ (· * ·) ?_ ?_
  · refine (readCov_at _ _ _ _).trans (Eq.trans (congrArg _ ?_) (knPieces_read arg3 harg3 x1 _ _ ⟨u / 20 % 2, by omega⟩ s k))
    funext a; fin_cases a <;> apply Fin.ext <;> simp [LoadRect.idx, Rect.toLoadRect, Rect.unit]
  · refine (readCov_at _ _ _ _).trans (Eq.trans (congrArg _ ?_) (qPieces_read arg2 harg2 x0 _ _ (nq u) (by unfold nq; omega) ⟨u / 2 % 20, by omega⟩
      (by unfold nq; simp only []; omega) k (uq u x)))
    funext a; fin_cases a <;> apply Fin.ext <;> simp [LoadRect.idx, Rect.toLoadRect, Rect.unit]

/-- The column of lane `x` of tile `l`. -/
abbrev lx (l : ℕ) (x : Fin 128) : Fin 256 := ⟨128 * (l % 2) + x.val, by omega⟩

theorem tV_apply (u l : ℕ) (s : Fin 512) (x : Fin 128) :
    tV arg2 harg2 arg3 harg3 arg6 arg12 arg13 x0 x1 u l (ix2 s x)
      = kT x0 x1 (u / 20 % 2) (u / 2 % 20) (uq u (lx l x)) s * kSc x1 (u / 20 % 2) s := by
  unfold tV
  refine (scaled_of _ _ l s x).trans ?_
  refine congrArg₂ (· * ·) (rawV_apply arg2 harg2 arg3 harg3 arg6 arg12 x0 x1 u s (lx l x)) ?_
  refine (readCov_at _ _ _ _).trans (Eq.trans (congrArg _ ?_) (kcolPieces_read arg3 harg3 x1 _ _ ⟨u / 20 % 2, by omega⟩ s x))
  funext a; fin_cases a <;> apply Fin.ext <;> simp [LoadRect.idx, Rect.toLoadRect, Rect.unit]

/-- The scaled scores read back: a tile is still there while fewer than four have followed it. -/
theorem tPieces_read {sg : RefSig} {κ' : Kind} {sp : Space} (v : View sg κ' sp S2x2x512x128 .f32) (f : v.ty.Contents (Elt Ideal)) :
    ∀ (n k : ℕ) (hk : k < n) (hn : n ≤ k + 4) (s : Fin 512) (x : Fin 128),
      v.read (Elt Ideal) (v.writes (Elt Ideal) f (tPieces arg2 harg2 arg3 harg3 arg6 arg12 arg13 x0 x1 n)) (ix4 ⟨k / 2 % 2, by omega⟩ ⟨k % 2, by omega⟩ s x)
        = tV arg2 harg2 arg3 harg3 arg6 arg12 arg13 x0 x1 (k / 2) k (ix2 s x) := by
  intro n
  induction n with
  | zero => intro k hk; exact absurd hk (Nat.not_lt_zero _)
  | succ n ih =>
    intro k hk hn s x
    by_cases e : k = n
    · subst e
      refine (View.read_writes_cons_unit_of_mem v f _ _ _ _ (ix4 0 0 s x) rfl ?_).trans ?_
      · intro a; fin_cases a <;> simp
      · generalize tV arg2 harg2 arg3 harg3 arg6 arg12 arg13 x0 x1 (k / 2) k = A
        pointwise []
    · by_cases e2 : k / 2 % 2 = n / 2 % 2
      · refine (View.read_writes_cons_unit_of_not_mem v f _ _ _ _ rfl 1 ?_).trans (ih k (by omega) (by omega) s x)
        simp; omega
      · refine (View.read_writes_cons_unit_of_not_mem v f _ _ _ _ rfl 0 ?_).trans (ih k (by omega) (by omega) s x)
        simp; omega

/-- The logit factors of a lane tile. -/
theorem cV_apply (u l : ℕ) (x : Fin 128) :
    cV arg2 harg2 arg14 x0 u l (ix2 0 x) = qSc x0 (u / 2 % 20) (uq u (lx l x)) * cFactor := by
  unfold cV
  refine (readCov_at _ _ _ _).trans (Eq.trans (congrArg _ ?_) (cPieces_read arg2 harg2 x0 _ _ (nq (u + 1)) (by unfold nq; omega) ⟨u / 2 % 20, by omega⟩
      (by unfold nq; simp only []; omega) (uq u (lx l x))))
  funext a; fin_cases a <;> apply Fin.ext <;> simp [LoadRect.idx, Rect.toLoadRect, Rect.unit, Nat.add_assoc]

/-- A weight. -/
theorem prV_apply (u l : ℕ) (hu : u < 40) (s : Fin 512) (x : Fin 128) :
    prV arg2 harg2 arg3 harg3 arg6 arg12 arg13 arg14 arg15 x0 x1 u l (ix2 s x)
      = kerWeight (kT x0 x1 (u / 20 % 2) (u / 2 % 20) (uq u (lx l x))) (qSc x0 (u / 2 % 20) (uq u (lx l x)) * cFactor) (kSc x1 (u / 20 % 2)) s := by
  unfold prV
  refine (weight_of _ _ _ s x).trans ?_
  have hk : (2 * u + l % 2) / 2 = u := by omega
  have hx : lx (2 * u + l % 2) x = lx l x := Fin.ext (by simp only []; omega)
  have hT : View.readCov arg15.view (tPieces arg2 harg2 arg3 harg3 arg6 arg12 arg13 x0 x1 (nt u))
      (Rect.unit (s := S2x2x512x128) ![u % 2, l % 2, 0, 0] S1x1x512x128.size (by intro a; fin_cases a <;> simp [S1x1x512x128, S2x2x512x128] <;> omega)).toLoadRect (ix4 0 0 s x)
      = kT x0 x1 (u / 20 % 2) (u / 2 % 20) (uq u (lx l x)) s * kSc x1 (u / 20 % 2) s := by
    refine (readCov_at _ _ _ _).trans (Eq.trans (congrArg _ ?_) ((tPieces_read arg2 harg2 arg3 harg3 arg6 arg12 arg13 x0 x1 _ _ (nt u) (2 * u + l % 2)
      (by unfold nt; omega) (by unfold nt; omega) s x).trans ?_))
    · funext a; fin_cases a <;> apply Fin.ext <;> simp [LoadRect.idx, Rect.toLoadRect, Rect.unit] <;> omega
    · rw [tV_apply, hk, hx]
  unfold kerWeight
  refine congrArg Ideal.exp2 ?_
  refine congrArg₂ (· - ·) (congrArg₂ (· * ·) hT (cV_apply arg2 harg2 arg14 x0 u l x)) (congrArg₂ (· - ·) (congrArg₂ (· * ·) ?_ (cV_apply arg2 harg2 arg14 x0 u l x)) rfl)
  refine congrArg (fun g => Finset.univ.fold max ⊥ g) (funext fun s => ?_)
  exact tV_apply arg2 harg2 arg3 harg3 arg6 arg12 arg13 x0 x1 u l s x

/-- The sums of a lane tile's weights. -/
theorem lsV_apply (u l : ℕ) (hu : u < 40) (x : Fin 128) :
    lsV arg2 harg2 arg3 harg3 arg6 arg12 arg13 arg14 arg15 x0 x1 u l (ix2 0 x)
      = ∑ s : Fin 512, kerWeight (kT x0 x1 (u / 20 % 2) (u / 2 % 20) (uq u (lx l x))) (qSc x0 (u / 2 % 20) (uq u (lx l x)) * cFactor) (kSc x1 (u / 20 % 2)) s := by
  unfold lsV
  refine (sum_of _ 0 x).trans (Finset.sum_congr rfl fun s _ => ?_)
  exact prV_apply arg2 harg2 arg3 harg3 arg6 arg12 arg13 arg14 arg15 x0 x1 u l hu s x

/-- The weights' codes read back: a tile is still there while fewer than four have followed it. -/
theorem pPieces_read {sg : RefSig} {κ' : Kind} {sp : Space} (v : View sg κ' sp S2x512x256 .fp8e4m3) (f : v.ty.Contents (Elt Ideal)) :
    ∀ (n k : ℕ) (hk : k < n) (hn : n ≤ k + 4) (s : Fin 512) (x : Fin 128),
      v.read (Elt Ideal) (v.writes (Elt Ideal) f (pPieces arg2 harg2 arg3 harg3 arg6 arg12 arg13 arg14 arg15 x0 x1 n)) (ix3 ⟨k / 2 % 2, by omega⟩ s (lx k x))
        = min (Ideal.ofBits .f32 0x43E00000#32) (max (Ideal.ofBits .f32 0x00000000#32) (prV arg2 harg2 arg3 harg3 arg6 arg12 arg13 arg14 arg15 x0 x1 (k / 2) k (ix2 s x))) := by
  intro n
  induction n with
  | zero => intro k hk; exact absurd hk (Nat.not_lt_zero _)
  | succ n ih =>
    intro k hk hn s x
    by_cases e : k = n
    · subst e
      refine (View.read_writes_cons_unit_of_mem v f _ _ _ _ (ix3 0 s x) rfl ?_).trans (code_of _ s x)
      intro a; fin_cases a <;> simp
    · by_cases e2 : k / 2 % 2 = n / 2 % 2
      · refine (View.read_writes_cons_unit_of_not_mem v f _ _ _ _ rfl 2 ?_).trans (ih k (by omega) (by omega) s x)
        simp; omega
      · refine (View.read_writes_cons_unit_of_not_mem v f _ _ _ _ rfl 0 ?_).trans (ih k (by omega) (by omega) s x)
        simp; omega

/-- A normalized weighted sum. -/
theorem oV_apply (u : ℕ) (hu : u < 40) (d : Fin 64) (l : Fin 2) (x : Fin 128) :
    oV arg2 harg2 arg3 harg3 arg4 harg4 arg6 arg10 arg12 arg13 arg14 arg15 arg16 x0 x1 x2 u (ix2 d ⟨128 * l.val + x.val, by omega⟩)
      = Ideal.div (∑ s : Fin 512, vCd x2 (u / 20 % 2) d s * min (Ideal.ofBits .f32 0x43E00000#32) (max (Ideal.ofBits .f32 0x00000000#32)
          (kerWeight (kT x0 x1 (u / 20 % 2) (u / 2 % 20) (uq u (lx l x))) (qSc x0 (u / 2 % 20) (uq u (lx l x)) * cFactor) (kSc x1 (u / 20 % 2)) s)))
        (∑ s : Fin 512, kerWeight (kT x0 x1 (u / 20 % 2) (u / 2 % 20) (uq u (lx l x))) (qSc x0 (u / 2 % 20) (uq u (lx l x)) * cFactor) (kSc x1 (u / 20 % 2)) s) := by
  have hk : (2 * u + l.val) / 2 = u := by omega
  have hl : l.val % 2 = l.val := Nat.mod_eq_of_lt l.isLt
  have hx : lx (2 * u + l.val) x = lx l x := Fin.ext (by simp only []; omega)
  unfold oV
  refine (normal_of _ _ _ _ l x d).trans (congrArg₂ Ideal.div (Finset.sum_congr rfl fun s _ => congrArg₂ (· * ·) ?_ ?_) ?_)
  · refine (readCov_at _ _ _ _).trans (Eq.trans (congrArg _ ?_) (vcPieces_read arg4 harg4 x2 _ _ ⟨u / 20 % 2, by omega⟩ d s))
    funext a; fin_cases a <;> apply Fin.ext <;> simp [LoadRect.idx, Rect.toLoadRect, Rect.unit]
  · refine (readCov_at _ _ _ _).trans (Eq.trans (congrArg _ ?_) ((pPieces_read arg2 harg2 arg3 harg3 arg6 arg12 arg13 arg14 arg15 x0 x1 _ _ (nt u) (2 * u + l.val)
      (by unfold nt; omega) (by unfold nt; omega) s x).trans ?_))
    · funext a; fin_cases a <;> apply Fin.ext <;> simp [LoadRect.idx, Rect.toLoadRect, Rect.unit] <;> omega
    · rw [hk, prV_apply arg2 harg2 arg3 harg3 arg6 arg12 arg13 arg14 arg15 x0 x1 u _ hu, hx]
  · have h0 := lsV_apply arg2 harg2 arg3 harg3 arg6 arg12 arg13 arg14 arg15 x0 x1 u 0 hu x
    have h1 := lsV_apply arg2 harg2 arg3 harg3 arg6 arg12 arg13 arg14 arg15 x0 x1 u 1 hu x
    fin_cases l
    · exact h0
    · exact h1

/-- The kernel's attention result of query row `q` of the block's head `h`, feature `d`. -/
def oOut (h : ℕ) (q : Fin 512) (d : Fin 64) : EReal :=
  kerAttn (kT x0 x1 (h / 10) h q) (qSc x0 h q * cFactor) (kSc x1 (h / 10)) (vCd x2 (h / 10) d) (vSc x2 (h / 10) d)

/-- A stored block of the output, at an index: piece `n`, head `p` of its pair. -/
theorem outPay_apply (n : ℕ) (hn : n < 20) (p : Fin 2) (q : Fin 256) (d : Fin 64) :
    shapeCast S1x256x128 (mulf (transpose S256x128 [1, 0] (concatenate S128x256 0
        [⟨S64x256, oV arg2 harg2 arg3 harg3 arg4 harg4 arg6 arg10 arg12 arg13 arg14 arg15 arg16 x0 x1 x2 (4 * (n / 2) + n % 2)⟩,
         ⟨S64x256, oV arg2 harg2 arg3 harg3 arg4 harg4 arg6 arg10 arg12 arg13 arg14 arg15 arg16 x0 x1 x2 (4 * (n / 2) + 2 + n % 2)⟩]
        concatenates_S64x256_S64x256_S128x256_d0) transposes_S128x256_p1_0_S256x128)
        (broadcastTo S256x128 (vsPair arg4 harg4 x2 (n / 10)) broadcasts_S1x128_S256x128)) shapeCasts_S256x128_S1x256x128 (ix3 0 q ⟨64 * p.val + d.val, by omega⟩)
      = oOut x0 x1 x2 (2 * (n / 2) + p.val) (uq n q) d := by
  unfold vsPair
  refine (block_of _ _ _ p q d).trans ?_
  have hu : (if p.val = 0 then oV arg2 harg2 arg3 harg3 arg4 harg4 arg6 arg10 arg12 arg13 arg14 arg15 arg16 x0 x1 x2 (4 * (n / 2) + n % 2)
      else oV arg2 harg2 arg3 harg3 arg4 harg4 arg6 arg10 arg12 arg13 arg14 arg15 arg16 x0 x1 x2 (4 * (n / 2) + 2 + n % 2))
      = oV arg2 harg2 arg3 harg3 arg4 harg4 arg6 arg10 arg12 arg13 arg14 arg15 arg16 x0 x1 x2 (4 * (n / 2) + 2 * p.val + n % 2) := by
    fin_cases p <;> rfl
  rw [hu, vRowHead_apply]
  obtain ⟨l, x, hq⟩ : ∃ (l : Fin 2) (x : Fin 128), q = ⟨128 * l.val + x.val, by omega⟩ :=
    ⟨⟨q.val / 128, by omega⟩, ⟨q.val % 128, by omega⟩, Fin.ext (by simp only []; omega)⟩
  subst hq
  rw [oV_apply arg2 harg2 arg3 harg3 arg4 harg4 arg6 arg10 arg12 arg13 arg14 arg15 arg16 x0 x1 x2 _ (by omega) d l x]
  have e1 : (4 * (n / 2) + 2 * p.val + n % 2) / 20 % 2 = (2 * (n / 2) + p.val) / 10 := by omega
  have e2 : (4 * (n / 2) + 2 * p.val + n % 2) / 2 % 20 = 2 * (n / 2) + p.val := by omega
  have e3 : n / 10 = (2 * (n / 2) + p.val) / 10 := by omega
  have e4 : uq (4 * (n / 2) + 2 * p.val + n % 2) (lx l x) = uq n ⟨128 * l.val + x.val, by omega⟩ := Fin.ext (by simp only []; omega)
  rw [e1, e2, e3, e4]
  rfl

/-- The output read back. -/
theorem outPieces_read {sg : RefSig} {κ' : Kind} {sp : Space} (v : View sg κ' sp S1x512x1280 .bf16) (f : v.ty.Contents (Elt Ideal)) :
    ∀ (n : ℕ) (hn : n ≤ 20) (k : ℕ) (hk : k < n) (p : Fin 2) (q : Fin 256) (d : Fin 64),
      v.read (Elt Ideal) (v.writes (Elt Ideal) f (outPieces arg2 harg2 arg3 harg3 arg4 harg4 arg6 arg10 arg12 arg13 arg14 arg15 arg16 x0 x1 x2 n))
          (ix3 0 (uq k q) ⟨64 * (2 * (k / 2) + p.val) + d.val, by omega⟩)
        = oOut x0 x1 x2 (2 * (k / 2) + p.val) (uq k q) d := by
  intro n
  induction n with
  | zero => intro _ k hk; exact absurd hk (Nat.not_lt_zero _)
  | succ n ih =>
    intro hn k hk p q d
    by_cases e : k = n
    · subst e
      refine (View.read_writes_cons_unit_of_mem v f _ _ _ _ (ix3 0 q ⟨64 * p.val + d.val, by omega⟩) rfl ?_).trans
        (outPay_apply arg2 harg2 arg3 harg3 arg4 harg4 arg6 arg10 arg12 arg13 arg14 arg15 arg16 x0 x1 x2 k (by omega) p q d)
      intro a; fin_cases a <;> simp
      omega
    · by_cases e2 : k / 2 = n / 2
      · refine (View.read_writes_cons_unit_of_not_mem v f _ _ _ _ rfl 1 ?_).trans (ih (by omega) k (by omega) p q d)
        simp; omega
      · refine (View.read_writes_cons_unit_of_not_mem v f _ _ _ _ rfl 2 ?_).trans (ih (by omega) k (by omega) p q d)
        simp; omega

/-- The output of a block, head by head. -/
theorem out_read {sg : RefSig} {κ' : Kind} {sp : Space} (v : View sg κ' sp S1x512x1280 .bf16) (f : v.ty.Contents (Elt Ideal))
    (h : Fin 20) (q : Fin 512) (d : Fin 64) :
    v.read (Elt Ideal) (v.writes (Elt Ideal) f (outPieces arg2 harg2 arg3 harg3 arg4 harg4 arg6 arg10 arg12 arg13 arg14 arg15 arg16 x0 x1 x2 20))
        (ix3 0 q ⟨64 * h.val + d.val, by omega⟩)
      = oOut x0 x1 x2 h.val q d := by
  have key := outPieces_read arg2 harg2 arg3 harg3 arg4 harg4 arg6 arg10 arg12 arg13 arg14 arg15 arg16 x0 x1 x2 v f 20 le_rfl
    (2 * (h.val / 2) + q.val / 256) (by omega) ⟨h.val % 2, by omega⟩ ⟨q.val % 256, by omega⟩ d
  have e1 : 2 * ((2 * (h.val / 2) + q.val / 256) / 2) + h.val % 2 = h.val := by omega
  have e2 : uq (2 * (h.val / 2) + q.val / 256) ⟨q.val % 256, by omega⟩ = q := Fin.ext (by simp only []; omega)
  simp only [e1, e2] at key
  exact key

end

end Cert.KI

end
-- ==== Proof.Final.lean ====
/- The kernel's run over the extended reals: what the output array holds at the end, element by element. -/
module

public import proofs.«01_k».proof.Proof.Post
public import proofs.«01_k».proof.Proof.Attn

@[expose] public section

set_option maxRecDepth 16384

noncomputable section

namespace Cert.KI

open Cert.KernelIdeal Cert.KernelIdeal.Gen
open Idealize.ShloMosaic Idealize.ShloMosaic.TcCoe Idealize.ShloMosaic.Tactic
open Idealize.ShloMosaic.Pipeline (Dat RDat Cfg Window)
open Idealize.SL.Sem
open Cert.Scalar

/-- The attention result of query row `q`, query head `h`, key and value head `e`, feature `d` of batch `b`. -/
def outAt (X0 : FVec Ideal S3x512x5120 .bf16) (X1 X2 : FVec Ideal S3x512x512 .bf16) (b : Fin 3) (e : Fin 8) (h : Fin 80) (q : Fin 512) (d : Fin 64) : EReal :=
  kerAttn (fun s : Fin 512 => ∑ k : Fin 64, GkC X1 (ix4 b e k s) * GqC X0 (ix4 b h k q)) (GqS X0 (ix3 b h q) * cFactor)
    (fun s => GkS X1 (ix3 b e s)) (fun s => GvC X2 (ix4 b e d s)) (GvS X2 (ix3 b e d))

/-- The output. -/
def Gout (X0 : FVec Ideal S3x512x5120 .bf16) (X1 X2 : FVec Ideal S3x512x512 .bf16) : FVec Ideal S3x512x5120 .bf16 :=
  fun i => outAt X0 X1 X2 (i 0) ⟨(i 2).val / 640, Nat.div_lt_of_lt_mul (i 2).isLt⟩ ⟨(i 2).val / 64, Nat.div_lt_of_lt_mul (i 2).isLt⟩ (i 1)
    ⟨(i 2).val % 64, Nat.mod_lt _ (by norm_num)⟩

variable (m : (ℓ : Loc nD τ sig) → Buf (Elt Ideal) ℓ) (c : Dev nD)

theorem idx3 : ∀ t : Fin cfg0.N, win0_3.index t = ![(grid0.coords t 0).val, 0, (grid0.coords t 1).val] := (by decide +kernel : ∀ t : Fin grid0.N, _)

theorem oOut_block (t : Fin cfg0.N) (h : ℕ) (hh : h < 20) (q : Fin 512) (d : Fin 64) :
    oOut (iblk m c 0 t) (iblk m c 1 t) (iblk m c 2 t) h q d
      = outAt (m ((c : Thread nD τ).loc main_arg0)) (m ((c : Thread nD τ).loc main_arg1)) (m ((c : Thread nD τ).loc main_arg2))
          (pb t) ⟨2 * (pj t).val + h / 10, by omega⟩ ⟨20 * (pj t).val + h, by omega⟩ q d := by
  unfold oOut outAt kT
  have h2 : h / 10 < 2 := by omega
  simp only [qCd_block m c t h hh, qSc_block m c t h hh, kCd_block m c t _ h2, vCd_block m c t _ h2, vSc_block m c t _ h2]
  refine congrArg (fun g => kerAttn _ _ g _ _) (funext fun s => kSc_block m c t _ h2 s) |>.trans ?_
  refine congrArg (fun g => kerAttn _ _ _ g _) (funext fun s => vCd_block m c t _ h2 d s)

section
variable (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))
include hL

theorem final3 : ((rdat m c).withAfter after).arrAt 3 cfg0.N
    = Gout (m ((c : Thread nD τ).loc main_arg0)) (m ((c : Thread nD τ).loc main_arg1)) (m ((c : Thread nD τ).loc main_arg2)) := by
  refine ((rdat m c).withAfter after).arrAt_eq_of_covers 3 _ (by decide +kernel) fun t hf y => ?_
  blk_simp
  rw [RDat.withAfter_after]
  obtain ⟨Y, _, f, hX⟩ := hL 3 t hf
  rw [hX]
  obtain ⟨a, q, h, d, rfl⟩ : ∃ (a : Fin 1) (q : Fin 512) (h : Fin 20) (d : Fin 64), y = ix3 a q (⟨64 * h.val + d.val, by omega⟩ : Fin 1280) :=
    ⟨y 0, y 1, ⟨(y 2).val / 64, Nat.div_lt_of_lt_mul (y 2).isLt⟩, ⟨(y 2).val % 64, Nat.mod_lt _ (by norm_num)⟩, by
      funext k; fin_cases k
      · rfl
      · rfl
      · exact Fin.ext (Nat.div_add_mod _ 64).symm⟩
  obtain rfl : a = 0 := Subsingleton.elim _ _
  refine (out_read _ _ _ _ _ _ _ _ _ _ _ _ _ _ _ _ _ f h q d).trans ?_
  rw [oOut_block m c t h.val h.isLt]
  have hj : (pj t).val < 4 := (pj t).isLt
  have key : ∀ i : S3x512x5120.Idx, i 0 = pb t → i 1 = q → (i 2).val = 1280 * (pj t).val + (64 * h.val + d.val) →
      outAt (m ((c : Thread nD τ).loc main_arg0)) (m ((c : Thread nD τ).loc main_arg1)) (m ((c : Thread nD τ).loc main_arg2))
          (pb t) ⟨2 * (pj t).val + h.val / 10, by omega⟩ ⟨20 * (pj t).val + h.val, by omega⟩ q d
      = Gout (m ((c : Thread nD τ).loc main_arg0)) (m ((c : Thread nD τ).loc main_arg1)) (m ((c : Thread nD τ).loc main_arg2)) i := by
    intro i h0 h1 h2
    unfold Gout
    congr 1
    · exact h0.symm
    · apply Fin.ext; simp only []; omega
    · apply Fin.ext; simp only []; omega
    · exact h1.symm
    · apply Fin.ext; simp only []; omega
  refine (key (ix3 (pb t) q ⟨1280 * (pj t).val + (64 * h.val + d.val), by omega⟩) rfl rfl rfl).trans (congrArg _ ?_)
  blk_ext [idx3 t, pb, pj]

end

/-- The kernel over the extended reals runs to its end, its seven results these functions of its arguments and the arguments unchanged. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = Gout (m ((c.tc : Thread nD τ).loc main_arg0)) (m ((c.tc : Thread nD τ).loc main_arg1)) (m ((c.tc : Thread nD τ).loc main_arg2))
    ∧ r.2.mem ((c.tc : Thread nD τ).loc main_v0_1) = GqC (m ((c.tc : Thread nD τ).loc main_arg0))
    ∧ r.2.mem ((c.tc : Thread nD τ).loc main_v0_2) = GqS (m ((c.tc : Thread nD τ).loc main_arg0))
    ∧ r.2.mem ((c.tc : Thread nD τ).loc main_v0_3) = GkC (m ((c.tc : Thread nD τ).loc main_arg1))
    ∧ r.2.mem ((c.tc : Thread nD τ).loc main_v0_4) = GkS (m ((c.tc : Thread nD τ).loc main_arg1))
    ∧ r.2.mem ((c.tc : Thread nD τ).loc main_v0_5) = GvC (m ((c.tc : Thread nD τ).loc main_arg2))
    ∧ r.2.mem ((c.tc : Thread nD τ).loc main_v0_6) = GvS (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun r h c => ?_) (run_main m ρ)
  obtain ⟨after, hL, hA⟩ := Pipeline.RDat.FramePost.exists_exact h.1 c
  exact ⟨(hA 3).trans (final3 m c after hL), (hA 4).trans (final4 m c after hL), (hA 5).trans (final5 m c after hL),
    (hA 6).trans (final6 m c after hL), (hA 7).trans (final7 m c after hL), (hA 8).trans (final8 m c after hL), (hA 9).trans (final9 m c after hL),
    (Pipeline.RDat.FramePost.arr_in h.1 c 0 rfl).trans ((A_eq m c 0).trans (V_main_arg0 m c)),
    (Pipeline.RDat.FramePost.arr_in h.1 c 1 rfl).trans ((A_eq m c 1).trans (V_main_arg1 m c)),
    (Pipeline.RDat.FramePost.arr_in h.1 c 2 rfl).trans ((A_eq m c 2).trans (V_main_arg2 m c))⟩

end Cert.KI

end
-- ==== Proof.RefVals.lean ====
/- The reference's quantisers over the extended reals, at an index: each scale and code from the elements of its row. -/
module

public import proofs.«01_k».proof.Proof.Gen.ReferenceIdeal.Read
public import proofs.«01_k».proof.Proof.Rows
public import Idealize.ShloMosaic.Lib.Pointwise

@[expose] public section

noncomputable section

namespace Cert.RI

open Cert.ReferenceIdeal Cert.ReferenceIdeal.Gen Cert.ReferenceIdeal.Read
open Idealize.ShloMosaic Idealize.ShloMosaic.TcCoe Idealize.ShloMosaic.Tactic
open Cert.Scalar

/-- The reference's scale of a ratio, as its operations spell it. -/
theorem refScale_of (r : Ideal .f32) :
    FloatOps.hostPowf (F := Ideal) (φ := .f32) (FloatOps.ofBits .f32 0x40000000#32)
      (Scalar.select (FloatOps.cmpf .olt r (FloatOps.ofBits .f32 0x00800000#32)) (FloatOps.ofBits .f32 0x00000000#32)
        (FloatOps.addf (FloatOps.hostUnary .floor (FloatOps.hostDivf (FloatOps.hostUnary .log r) (FloatOps.hostUnary .log (FloatOps.ofBits .f32 0x40000000#32))))
          (FloatOps.ofBits .f32 0x3F800000#32))) = refScale r := by
  unfold refScale
  show Ideal.pow _ (Scalar.select (Ideal.cmp .olt r _) _ _) = _
  congr 1
  unfold Scalar.select Ideal.cmp
  by_cases h : r < Ideal.ofBits .f32 0x00800000#32
  · rw [if_pos h]; simp [h]
  · rw [if_neg h]; simp [h]

/-- The reference's code, as its operations spell it. -/
theorem refCode_of {n : ℕ} (row : Fin n → EReal) (x : Ideal .f32) :
    FloatOps.minimumf (F := Ideal) (φ := .f32) (FloatOps.maximumf (FloatOps.hostDivf x (refScale (ratioS row))) (FloatOps.ofBits .f32 0xC3E00000#32))
      (FloatOps.ofBits .f32 0x43E00000#32) = refCode row x := rfl

section
variable (x0 : FVec Ideal S3x512x5120 .bf16) (x1 x2 : FVec Ideal S3x512x512 .bf16)

/-! ## Queries -/

theorem v0_apply (b : Fin 3) (q : Fin 512) (h : Fin 80) (d : Fin 64) :
    val_main_v0 (F := Ideal) x0 (ix4 b q h d) = x0 (ix3 b q ⟨64 * h.val + d.val, by omega⟩) := by
  unfold val_main_v0
  pointwise []
  simp only [Nat.mul_comm]

theorem v5_apply (b : Fin 3) (q : Fin 512) (h : Fin 80) :
    val_main_v5 (F := Ideal) x0 (ix3 b q h) = amaxS (fun k : Fin 64 => x0 (ix3 b q ⟨64 * h.val + k.val, by omega⟩)) := by
  unfold val_main_v5 amaxS
  pointwise []
  rw [val_main_cst_apply]
  simp only [val_main_v4_apply, val_main_v3_apply, v0_apply]
  rw [← bot_bits32]; rfl

theorem v20_apply (b : Fin 3) (q : Fin 512) (h : Fin 80) :
    val_main_v20 (F := Ideal) x0 (ix3 b q h) = refScale (ratioS (fun k : Fin 64 => x0 (ix3 b q ⟨64 * h.val + k.val, by omega⟩))) := by
  rw [val_main_v20_apply, val_main_v19_apply, val_main_v18_apply, val_main_v9_apply, val_main_v8_apply, val_main_v10_apply, val_main_v17_apply, val_main_v16_apply, val_main_v15_apply, val_main_v14_apply, val_main_v13_apply, val_main_v12_apply, val_main_v11_apply, val_main_v7_apply, val_main_v6_apply, v5_apply,
    val_main_cst_0_apply, val_main_cst_1_apply, val_main_cst_2_apply, val_main_cst_3_apply, val_main_cst_4_apply, val_main_cst_5_apply]
  exact refScale_of _

theorem v27_apply (b : Fin 3) (q : Fin 512) (h : Fin 80) (d : Fin 64) :
    val_main_v27 (F := Ideal) x0 (ix4 b q h d)
      = refCode (fun k : Fin 64 => x0 (ix3 b q ⟨64 * h.val + k.val, by omega⟩)) (x0 (ix3 b q ⟨64 * h.val + d.val, by omega⟩)) := by
  have e : val_main_v22 (F := Ideal) x0 (ix4 b q h d) = val_main_v20 (F := Ideal) x0 (ix3 b q h) := by
    unfold val_main_v22 val_main_v21
    pointwise []
  rw [val_main_v27_apply, val_main_v26_apply, val_main_v25_apply, val_main_v24_apply, val_main_v23_apply, val_main_v3_apply, e, v20_apply, v0_apply,
    val_main_cst_6_apply, val_main_cst_7_apply]
  exact refCode_of _ _

/-- The query codes. -/
theorem v118_apply (b : Fin 3) (h : Fin 80) (d : Fin 64) (q : Fin 512) :
    val_main_v118 (F := Ideal) x0 (ix4 b h d q)
      = refCode (fun k : Fin 64 => x0 (ix3 b q ⟨64 * h.val + k.val, by omega⟩)) (x0 (ix3 b q ⟨64 * h.val + d.val, by omega⟩)) := by
  rw [val_main_v118_apply]
  unfold val_main_v117
  refine Eq.trans ?_ (v27_apply x0 b q h d)
  pointwise []

/-- The query scales. -/
theorem v119_apply (b : Fin 3) (h : Fin 80) (q : Fin 512) :
    val_main_v119 (F := Ideal) x0 (ix3 b h q) = refScale (ratioS (fun k : Fin 64 => x0 (ix3 b q ⟨64 * h.val + k.val, by omega⟩))) := by
  unfold val_main_v119
  refine Eq.trans ?_ (v20_apply x0 b q h)
  pointwise []

/-! ## Keys -/

theorem v1_apply (b : Fin 3) (q : Fin 512) (h : Fin 8) (d : Fin 64) :
    val_main_v1 (F := Ideal) x1 (ix4 b q h d) = x1 (ix3 b q ⟨64 * h.val + d.val, by omega⟩) := by
  unfold val_main_v1
  pointwise []
  simp only [Nat.mul_comm]

theorem v30_apply (b : Fin 3) (q : Fin 512) (h : Fin 8) :
    val_main_v30 (F := Ideal) x1 (ix3 b q h) = amaxS (fun k : Fin 64 => x1 (ix3 b q ⟨64 * h.val + k.val, by omega⟩)) := by
  unfold val_main_v30 amaxS
  pointwise []
  rw [val_main_cst_8_apply]
  simp only [val_main_v29_apply, val_main_v28_apply, v1_apply]
  rw [← bot_bits32]; rfl

theorem v45_apply (b : Fin 3) (q : Fin 512) (h : Fin 8) :
    val_main_v45 (F := Ideal) x1 (ix3 b q h) = refScale (ratioS (fun k : Fin 64 => x1 (ix3 b q ⟨64 * h.val + k.val, by omega⟩))) := by
  rw [val_main_v45_apply, val_main_v44_apply, val_main_v43_apply, val_main_v34_apply, val_main_v33_apply, val_main_v35_apply, val_main_v42_apply, val_main_v41_apply, val_main_v40_apply, val_main_v39_apply, val_main_v38_apply, val_main_v37_apply, val_main_v36_apply, val_main_v32_apply, val_main_v31_apply, v30_apply,
    val_main_cst_9_apply, val_main_cst_10_apply, val_main_cst_11_apply, val_main_cst_12_apply, val_main_cst_13_apply, val_main_cst_14_apply]
  exact refScale_of _

theorem v52_apply (b : Fin 3) (q : Fin 512) (h : Fin 8) (d : Fin 64) :
    val_main_v52 (F := Ideal) x1 (ix4 b q h d)
      = refCode (fun k : Fin 64 => x1 (ix3 b q ⟨64 * h.val + k.val, by omega⟩)) (x1 (ix3 b q ⟨64 * h.val + d.val, by omega⟩)) := by
  have e : val_main_v47 (F := Ideal) x1 (ix4 b q h d) = val_main_v45 (F := Ideal) x1 (ix3 b q h) := by
    unfold val_main_v47 val_main_v46
    pointwise []
  rw [val_main_v52_apply, val_main_v51_apply, val_main_v50_apply, val_main_v49_apply, val_main_v48_apply, val_main_v28_apply, e, v45_apply, v1_apply,
    val_main_cst_15_apply, val_main_cst_16_apply]
  exact refCode_of _ _

/-- The key codes. -/
theorem v121_apply (b : Fin 3) (h : Fin 8) (d : Fin 64) (q : Fin 512) :
    val_main_v121 (F := Ideal) x1 (ix4 b h d q)
      = refCode (fun k : Fin 64 => x1 (ix3 b q ⟨64 * h.val + k.val, by omega⟩)) (x1 (ix3 b q ⟨64 * h.val + d.val, by omega⟩)) := by
  rw [val_main_v121_apply]
  unfold val_main_v120
  refine Eq.trans ?_ (v52_apply x1 b q h d)
  pointwise []

/-- The key scales. -/
theorem v122_apply (b : Fin 3) (h : Fin 8) (q : Fin 512) :
    val_main_v122 (F := Ideal) x1 (ix3 b h q) = refScale (ratioS (fun k : Fin 64 => x1 (ix3 b q ⟨64 * h.val + k.val, by omega⟩))) := by
  unfold val_main_v122
  refine Eq.trans ?_ (v45_apply x1 b q h)
  pointwise []

/-! ## Values -/

theorem v2_apply (b : Fin 3) (s : Fin 512) (h : Fin 8) (d : Fin 64) :
    val_main_v2 (F := Ideal) x2 (ix4 b s h d) = x2 (ix3 b s ⟨64 * h.val + d.val, by omega⟩) := by
  unfold val_main_v2
  pointwise []
  simp only [Nat.mul_comm]

theorem v55_apply (b : Fin 3) (h : Fin 8) (d : Fin 64) :
    val_main_v55 (F := Ideal) x2 (ix3 b h d) = amaxS (fun k : Fin 512 => x2 (ix3 b k ⟨64 * h.val + d.val, by omega⟩)) := by
  unfold val_main_v55 amaxS
  pointwise []
  rw [val_main_cst_17_apply]
  simp only [val_main_v54_apply, val_main_v53_apply, v2_apply]
  rw [← bot_bits32]; rfl

/-- The value scales. -/
theorem v70_apply (b : Fin 3) (h : Fin 8) (d : Fin 64) :
    val_main_v70 (F := Ideal) x2 (ix3 b h d) = refScale (ratioS (fun k : Fin 512 => x2 (ix3 b k ⟨64 * h.val + d.val, by omega⟩))) := by
  rw [val_main_v70_apply, val_main_v69_apply, val_main_v68_apply, val_main_v59_apply, val_main_v58_apply, val_main_v60_apply, val_main_v67_apply, val_main_v66_apply, val_main_v65_apply, val_main_v64_apply, val_main_v63_apply, val_main_v62_apply, val_main_v61_apply, val_main_v57_apply, val_main_v56_apply, v55_apply,
    val_main_cst_18_apply, val_main_cst_19_apply, val_main_cst_20_apply, val_main_cst_21_apply, val_main_cst_22_apply, val_main_cst_23_apply]
  exact refScale_of _

theorem v77_apply (b : Fin 3) (s : Fin 512) (h : Fin 8) (d : Fin 64) :
    val_main_v77 (F := Ideal) x2 (ix4 b s h d)
      = refCode (fun k : Fin 512 => x2 (ix3 b k ⟨64 * h.val + d.val, by omega⟩)) (x2 (ix3 b s ⟨64 * h.val + d.val, by omega⟩)) := by
  have e : val_main_v72 (F := Ideal) x2 (ix4 b s h d) = val_main_v70 (F := Ideal) x2 (ix3 b h d) := by
    unfold val_main_v72 val_main_v71
    pointwise []
  rw [val_main_v77_apply, val_main_v76_apply, val_main_v75_apply, val_main_v74_apply, val_main_v73_apply, val_main_v53_apply, e, v70_apply, v2_apply,
    val_main_cst_24_apply, val_main_cst_25_apply]
  exact refCode_of _ _

/-- The value codes. -/
theorem v124_apply (b : Fin 3) (h : Fin 8) (d : Fin 64) (s : Fin 512) :
    val_main_v124 (F := Ideal) x2 (ix4 b h d s)
      = refCode (fun k : Fin 512 => x2 (ix3 b k ⟨64 * h.val + d.val, by omega⟩)) (x2 (ix3 b s ⟨64 * h.val + d.val, by omega⟩)) := by
  rw [val_main_v124_apply]
  unfold val_main_v123
  refine Eq.trans ?_ (v77_apply x2 b s h d)
  pointwise []

end

end Cert.RI

end
-- ==== Proof.RefAttn.lean ====
/- The reference's attention over the extended reals, at an index. -/
module

public import proofs.«01_k».proof.Proof.RefVals
public import proofs.«01_k».proof.Proof.Core

@[expose] public section

noncomputable section

namespace Cert.RI

open Cert.ReferenceIdeal Cert.ReferenceIdeal.Gen Cert.ReferenceIdeal.Read
open Idealize.ShloMosaic Idealize.ShloMosaic.TcCoe Idealize.ShloMosaic.Tactic
open Cert.Scalar

section
variable (x0 : FVec Ideal S3x512x5120 .bf16) (x1 x2 : FVec Ideal S3x512x512 .bf16)

theorem v78_apply (b : Fin 3) (q : Fin 512) (e : Fin 8) (g : Fin 10) (d : Fin 64) :
    val_main_v78 (F := Ideal) x0 (ix5 b q e g d) = val_main_v27 (F := Ideal) x0 (ix4 b q ⟨10 * e + g, by omega⟩ d) := by
  unfold val_main_v78; pointwise []; simp only [Nat.mul_comm]

/-- The product of the codes of key `s` and query `q`. -/
theorem v80_apply (b : Fin 3) (e : Fin 8) (g : Fin 10) (q s : Fin 512) :
    val_main_v80 (F := Ideal) x0 x1 (ix5 b e g q s) = ∑ k : Fin 64, val_main_v52 (F := Ideal) x1 (ix4 b s e k) * val_main_v27 (F := Ideal) x0 (ix4 b q ⟨10 * e + g, by omega⟩ k) := by
  unfold val_main_v80; pointwise []
  rw [val_main_v79_apply]
  refine Finset.sum_congr rfl fun k _ => ?_
  rw [← v78_apply]
  refine congrArg₂ (· * ·) (congrArg _ ?_) (congrArg _ ?_)
  · funext a; fin_cases a <;> rfl
  · funext a; fin_cases a <;> rfl

theorem v86_apply (b : Fin 3) (e : Fin 8) (g : Fin 10) (q s : Fin 512) :
    val_main_v86 (F := Ideal) x0 (ix5 b e g q s) = val_main_v20 (F := Ideal) x0 (ix3 b q ⟨10 * e + g, by omega⟩) := by
  unfold val_main_v86 val_main_v83 val_main_v82 val_main_v81; pointwise []; simp only [Nat.mul_comm]

theorem v88_apply (b : Fin 3) (e : Fin 8) (g : Fin 10) (q s : Fin 512) :
    val_main_v88 (F := Ideal) x1 (ix5 b e g q s) = val_main_v45 (F := Ideal) x1 (ix3 b s e) := by
  unfold val_main_v88 val_main_v85 val_main_v84; pointwise []

/-- The products of a query row's codes with every key's. -/
def rT (b : Fin 3) (e : Fin 8) (g : Fin 10) (q s : Fin 512) : EReal :=
  ∑ k : Fin 64, val_main_v52 (F := Ideal) x1 (ix4 b s e k) * val_main_v27 (F := Ideal) x0 (ix4 b q ⟨10 * e + g, by omega⟩ k)

theorem v91_apply (b : Fin 3) (e : Fin 8) (g : Fin 10) (q s : Fin 512) :
    val_main_v91 (F := Ideal) x0 x1 (ix5 b e g q s) = refLogit (rT x0 x1 b e g q) (val_main_v20 (F := Ideal) x0 (ix3 b q ⟨10 * e + g, by omega⟩))
      (fun s => val_main_v45 (F := Ideal) x1 (ix3 b s e)) s := by
  rw [val_main_v91_apply, val_main_v89_apply, val_main_v87_apply, v80_apply, v86_apply, v88_apply]
  rw [val_main_v90_apply, val_main_cst_26_apply]
  rfl

theorem v94_apply (b : Fin 3) (e : Fin 8) (g : Fin 10) (q s : Fin 512) :
    val_main_v94 (F := Ideal) x0 x1 (ix5 b e g q s) = Finset.univ.fold max ⊥ (refLogit (rT x0 x1 b e g q) (val_main_v20 (F := Ideal) x0 (ix3 b q ⟨10 * e + g, by omega⟩))
      (fun s => val_main_v45 (F := Ideal) x1 (ix3 b s e))) := by
  unfold val_main_v94 val_main_v93 val_main_v92; pointwise []
  rw [val_main_cst_27_apply, ← bot_bits32]
  simp only [v91_apply]
  rfl

theorem v96_apply (b : Fin 3) (e : Fin 8) (g : Fin 10) (q s : Fin 512) :
    val_main_v96 (F := Ideal) x0 x1 (ix5 b e g q s) = refWeight (rT x0 x1 b e g q) (val_main_v20 (F := Ideal) x0 (ix3 b q ⟨10 * e + g, by omega⟩))
      (fun s => val_main_v45 (F := Ideal) x1 (ix3 b s e)) s := by
  rw [val_main_v96_apply, val_main_v95_apply, v91_apply, v94_apply]
  unfold refWeight
  generalize refLogit _ _ _ s = A
  generalize (Finset.univ : Finset (Fin 512)).fold max (⊥ : EReal) _ = B
  rfl

/-- A weight's code. -/
theorem v103_apply (b : Fin 3) (e : Fin 8) (g : Fin 10) (q s : Fin 512) :
    val_main_v103 (F := Ideal) x0 x1 (ix5 b e g q s) = min (max (refWeight (rT x0 x1 b e g q) (val_main_v20 (F := Ideal) x0 (ix3 b q ⟨10 * e + g, by omega⟩))
      (fun s => val_main_v45 (F := Ideal) x1 (ix3 b s e)) s * Ideal.ofBits .f32 0x43800000#32) (Ideal.ofBits .f32 0x00000000#32)) (Ideal.ofBits .f32 0x43E00000#32) := by
  rw [val_main_v103_apply, val_main_v101_apply, val_main_v99_apply, v96_apply, val_main_v98_apply, val_main_v100_apply, val_main_v102_apply,
    val_main_cst_29_apply, val_main_cst_30_apply, val_main_cst_31_apply]
  rfl

theorem v105_apply (b : Fin 3) (q : Fin 512) (e : Fin 8) (g : Fin 10) (d : Fin 64) :
    val_main_v105 (F := Ideal) x0 x1 x2 (ix5 b q e g d) = ∑ s : Fin 512, val_main_v77 (F := Ideal) x2 (ix4 b s e d) * val_main_v103 (F := Ideal) x0 x1 (ix5 b e g q s) := by
  unfold val_main_v105; pointwise []
  rw [val_main_v104_apply]
  refine Finset.sum_congr rfl fun k _ => ?_
  refine congrArg₂ (· * ·) (congrArg _ ?_) (congrArg _ ?_)
  · funext a; fin_cases a <;> rfl
  · funext a; fin_cases a <;> rfl

theorem v113_apply (b : Fin 3) (q : Fin 512) (e : Fin 8) (g : Fin 10) (d : Fin 64) :
    val_main_v113 (F := Ideal) x0 x1 (ix5 b q e g d) = ∑ s : Fin 512, val_main_v96 (F := Ideal) x0 x1 (ix5 b e g q s) := by
  unfold val_main_v113 val_main_v112 val_main_v111 val_main_v97; pointwise []
  rw [val_main_cst_28_apply]
  show Ideal.ofBits .f32 0x00000000#32 + _ = _
  rw [zero32_bits, EReal.coe_zero, zero_add]

theorem v109_apply (b : Fin 3) (q : Fin 512) (e : Fin 8) (g : Fin 10) (d : Fin 64) :
    val_main_v109 (F := Ideal) x2 (ix5 b q e g d) = val_main_v70 (F := Ideal) x2 (ix3 b e d) * Ideal.ofBits .f32 0x3B800000#32 := by
  unfold val_main_v109 val_main_v108; pointwise []
  rw [val_main_v107_apply, val_main_v106_apply, val_main_cst_32_apply]
  rfl

/-- The reference's attention result of query row `q`, query head `10 * e + g`, feature `d`. -/
theorem v114_apply (b : Fin 3) (q : Fin 512) (e : Fin 8) (g : Fin 10) (d : Fin 64) :
    val_main_v114 (F := Ideal) x0 x1 x2 (ix5 b q e g d) = refAttn (rT x0 x1 b e g q) (val_main_v20 (F := Ideal) x0 (ix3 b q ⟨10 * e + g, by omega⟩))
      (fun s => val_main_v45 (F := Ideal) x1 (ix3 b s e)) (fun s => val_main_v77 (F := Ideal) x2 (ix4 b s e d)) (val_main_v70 (F := Ideal) x2 (ix3 b e d)) := by
  rw [val_main_v114_apply, val_main_v110_apply, v105_apply, v109_apply, v113_apply]
  simp only [v103_apply, v96_apply]
  rfl

theorem v116_apply (b : Fin 3) (q : Fin 512) (e : Fin 8) (g : Fin 10) (d : Fin 64) :
    val_main_v116 (F := Ideal) x0 x1 x2 (ix3 b q ⟨64 * (10 * e + g) + d, by omega⟩) = val_main_v114 (F := Ideal) x0 x1 x2 (ix5 b q e g d) := by
  rw [val_main_v116_apply, val_main_v115_apply]
  show val_main_v114 (F := Ideal) x0 x1 x2 _ = _
  refine congrArg _ ?_
  funext a
  fin_cases a <;> apply Fin.ext <;> simp <;> omega

end

end Cert.RI

end
-- ==== Proof.Values.lean ====
/- The kernel's results and the reference's, as functions of the arguments: equal where the arguments are finite. -/
module

public import proofs.«01_k».proof.Proof.Final
public import proofs.«01_k».proof.Proof.RefAttn

@[expose] public section

noncomputable section

namespace Cert.Values

open Idealize.ShloMosaic Idealize.ShloMosaic.TcCoe Idealize.ShloMosaic.Tactic
open Cert.Scalar Cert.KI

/-- The query codes agree. -/
theorem qC_eq (X : FVec Ideal Cert.KernelIdeal.S3x512x5120 .bf16) (h : ∀ i, Fin16 (X i)) :
    GqC X = Cert.ReferenceIdeal.Read.val_main_v118 (F := Ideal) X := by
  funext i
  obtain ⟨b, e, d, q, rfl⟩ : ∃ (b : Fin 3) (e : Fin 80) (d : Fin 64) (q : Fin 512), i = ix4 b e d q := ⟨i 0, i 1, i 2, i 3, by funext k; fin_cases k <;> rfl⟩
  exact (code_eq (by norm_num) _ (fun _ => h _) _ (h _)).trans (Cert.RI.v118_apply X b e d q).symm

/-- The query scales agree. -/
theorem qS_eq (X : FVec Ideal Cert.KernelIdeal.S3x512x5120 .bf16) (h : ∀ i, Fin16 (X i)) :
    GqS X = Cert.ReferenceIdeal.Read.val_main_v119 (F := Ideal) X := by
  funext i
  obtain ⟨b, e, q, rfl⟩ : ∃ (b : Fin 3) (e : Fin 80) (q : Fin 512), i = ix3 b e q := ⟨i 0, i 1, i 2, by funext k; fin_cases k <;> rfl⟩
  exact (scale_eq (by norm_num) _ (fun _ => h _)).trans (Cert.RI.v119_apply X b e q).symm

/-- The key codes agree. -/
theorem kC_eq (X : FVec Ideal Cert.KernelIdeal.S3x512x512 .bf16) (h : ∀ i, Fin16 (X i)) :
    GkC X = Cert.ReferenceIdeal.Read.val_main_v121 (F := Ideal) X := by
  funext i
  obtain ⟨b, e, d, q, rfl⟩ : ∃ (b : Fin 3) (e : Fin 8) (d : Fin 64) (q : Fin 512), i = ix4 b e d q := ⟨i 0, i 1, i 2, i 3, by funext k; fin_cases k <;> rfl⟩
  exact (code_eq (by norm_num) _ (fun _ => h _) _ (h _)).trans (Cert.RI.v121_apply X b e d q).symm

/-- The key scales agree. -/
theorem kS_eq (X : FVec Ideal Cert.KernelIdeal.S3x512x512 .bf16) (h : ∀ i, Fin16 (X i)) :
    GkS X = Cert.ReferenceIdeal.Read.val_main_v122 (F := Ideal) X := by
  funext i
  obtain ⟨b, e, q, rfl⟩ : ∃ (b : Fin 3) (e : Fin 8) (q : Fin 512), i = ix3 b e q := ⟨i 0, i 1, i 2, by funext k; fin_cases k <;> rfl⟩
  exact (scale_eq (by norm_num) _ (fun _ => h _)).trans (Cert.RI.v122_apply X b e q).symm

/-- The value codes agree. -/
theorem vC_eq (X : FVec Ideal Cert.KernelIdeal.S3x512x512 .bf16) (h : ∀ i, Fin16 (X i)) :
    GvC X = Cert.ReferenceIdeal.Read.val_main_v124 (F := Ideal) X := by
  funext i
  obtain ⟨b, e, d, s, rfl⟩ : ∃ (b : Fin 3) (e : Fin 8) (d : Fin 64) (s : Fin 512), i = ix4 b e d s := ⟨i 0, i 1, i 2, i 3, by funext k; fin_cases k <;> rfl⟩
  exact (code_eq (by norm_num) _ (fun _ => h _) _ (h _)).trans (Cert.RI.v124_apply X b e d s).symm

/-- The value scales agree. -/
theorem vS_eq (X : FVec Ideal Cert.KernelIdeal.S3x512x512 .bf16) (h : ∀ i, Fin16 (X i)) :
    GvS X = Cert.ReferenceIdeal.Read.val_main_v70 (F := Ideal) X := by
  funext i
  obtain ⟨b, e, d, rfl⟩ : ∃ (b : Fin 3) (e : Fin 8) (d : Fin 64), i = ix3 b e d := ⟨i 0, i 1, i 2, by funext k; fin_cases k <;> rfl⟩
  exact (scale_eq (by norm_num) _ (fun _ => h _)).trans (Cert.RI.v70_apply X b e d).symm

/-- A sum of products of reals is real. -/
theorem sum_real {n : ℕ} (a b : Fin n → EReal) (ha : ∀ k, ∃ r : ℝ, a k = (r : EReal)) (hb : ∀ k, ∃ r : ℝ, b k = (r : EReal)) :
    ∃ r : ℝ, ∑ k, a k * b k = (r : EReal) := by
  choose a' ha' using ha
  choose b' hb' using hb
  refine ⟨∑ k, a' k * b' k, ?_⟩
  simp only [ha', hb', ← EReal.coe_mul]
  exact sum_coe fun k => a' k * b' k

/-- The two attention results agree where the products, scales and codes are real and the query scale positive. -/
theorem attn_of_real {n : ℕ} (hn : 0 < n) (T ks vc : Fin n → EReal) (qs vs : EReal) (hT : ∀ s, ∃ r : ℝ, T s = (r : EReal))
    (hks : ∀ s, ∃ r : ℝ, ks s = (r : EReal)) (hvc : ∀ s, ∃ r : ℝ, vc s = (r : EReal)) (hq : ∃ r : ℝ, 0 < r ∧ qs = (r : EReal))
    (hv : ∃ r : ℝ, vs = (r : EReal)) :
    kerAttn T (qs * ((1 / 8 * (Real.log 2)⁻¹ : ℝ) : EReal)) ks vc vs = refAttn T qs ks vc vs := by
  choose T' hT' using hT
  choose ks' hks' using hks
  choose vc' hvc' using hvc
  obtain ⟨q, hq, rfl⟩ := hq
  obtain ⟨v, rfl⟩ := hv
  obtain rfl : T = fun s => (T' s : EReal) := funext hT'
  obtain rfl : ks = fun s => (ks' s : EReal) := funext hks'
  obtain rfl : vc = fun s => (vc' s : EReal) := funext hvc'
  exact attn_eq hn T' ks' vc' q v hq

/-- The constant of the logit factors: one eighth over the logarithm of two. -/
theorem cFactor_eq : cFactor = ((1 / 8 * (Real.log 2)⁻¹ : ℝ) : EReal) :=
  IdealRules.named_const.ideal_named_scalar _ _ _ _ rfl

/-- A scale of a row of finite numbers is a positive real. -/
theorem scale_pos {n : ℕ} (hn : 0 < n) (row : Fin n → EReal) (h : ∀ k, Fin16 (row k)) :
    ∃ r : ℝ, 0 < r ∧ scaleS (efS (ratioS row)) = (r : EReal) := by
  obtain ⟨e, h1, _, _⟩ := scale_real hn row h
  exact ⟨_, by positivity, h1⟩

/-- The attention results agree. -/
theorem out_eq (X0 : FVec Ideal Cert.KernelIdeal.S3x512x5120 .bf16) (X1 X2 : FVec Ideal Cert.KernelIdeal.S3x512x512 .bf16)
    (h0 : ∀ i, Fin16 (X0 i)) (h1 : ∀ i, Fin16 (X1 i)) (h2 : ∀ i, Fin16 (X2 i)) :
    Gout X0 X1 X2 = Cert.ReferenceIdeal.Read.val_main_v116 (F := Ideal) X0 X1 X2 := by
  funext i
  obtain ⟨b, q, e, g, d, rfl⟩ : ∃ (b : Fin 3) (q : Fin 512) (e : Fin 8) (g : Fin 10) (d : Fin 64), i = ix3 b q (⟨64 * (10 * e.val + g.val) + d.val, by omega⟩ : Fin 5120) := by
    have hi : (i 2).val < 5120 := (i 2).isLt
    refine ⟨i 0, i 1, ⟨(i 2).val / 640, by omega⟩, ⟨(i 2).val / 64 % 10, by omega⟩, ⟨(i 2).val % 64, by omega⟩, ?_⟩
    funext k; fin_cases k
    · rfl
    · rfl
    · apply Fin.ext
      show (i 2).val = 64 * (10 * ((i 2).val / 640) + (i 2).val / 64 % 10) + (i 2).val % 64
      omega
  rw [Cert.RI.v116_apply X0 X1 X2, Cert.RI.v114_apply X0 X1 X2]
  have hG : Gout X0 X1 X2 (ix3 b q (⟨64 * (10 * e.val + g.val) + d.val, by omega⟩ : Fin 5120)) = outAt X0 X1 X2 b e ⟨10 * e.val + g.val, by omega⟩ q d := by
    unfold Gout
    congr 1
    · apply Fin.ext; show (64 * (10 * e.val + g.val) + d.val) / 640 = e.val; omega
    · apply Fin.ext; show (64 * (10 * e.val + g.val) + d.val) / 64 = 10 * e.val + g.val; omega
    · apply Fin.ext; show (64 * (10 * e.val + g.val) + d.val) % 64 = d.val; omega
  rw [hG]
  have eqS : Cert.ReferenceIdeal.Read.val_main_v20 (F := Ideal) X0 (ix3 b q ⟨10 * e.val + g.val, by omega⟩) = GqS X0 (ix3 b ⟨10 * e.val + g.val, by omega⟩ q) :=
    (Cert.RI.v20_apply X0 b q _).trans (scale_eq (by norm_num) _ (fun _ => h0 _)).symm
  have ekS : (fun s => Cert.ReferenceIdeal.Read.val_main_v45 (F := Ideal) X1 (ix3 b s e)) = fun s : Fin 512 => GkS X1 (ix3 b e s) :=
    funext fun s => (Cert.RI.v45_apply X1 b s e).trans (scale_eq (by norm_num) _ (fun _ => h1 _)).symm
  have evC : (fun s => Cert.ReferenceIdeal.Read.val_main_v77 (F := Ideal) X2 (ix4 b s e d)) = fun s : Fin 512 => GvC X2 (ix4 b e d s) :=
    funext fun s => (Cert.RI.v77_apply X2 b s e d).trans (code_eq (by norm_num) _ (fun _ => h2 _) _ (h2 _)).symm
  have evS : Cert.ReferenceIdeal.Read.val_main_v70 (F := Ideal) X2 (ix3 b e d) = GvS X2 (ix3 b e d) :=
    (Cert.RI.v70_apply X2 b e d).trans (scale_eq (by norm_num) _ (fun _ => h2 _)).symm
  have eT : Cert.RI.rT X0 X1 b e g q = fun s : Fin 512 => ∑ k : Fin 64, GkC X1 (ix4 b e k s) * GqC X0 (ix4 b ⟨10 * e.val + g.val, by omega⟩ k q) := by
    funext s
    refine Finset.sum_congr rfl fun k _ => congrArg₂ (· * ·) ?_ ?_
    · exact (Cert.RI.v52_apply X1 b s e k).trans (code_eq (by norm_num) _ (fun _ => h1 _) _ (h1 _)).symm
    · exact (Cert.RI.v27_apply X0 b q _ k).trans (code_eq (by norm_num) _ (fun _ => h0 _) _ (h0 _)).symm
  rw [eqS, ekS, evC, evS, eT]
  unfold outAt
  rw [cFactor_eq]
  refine attn_of_real (by norm_num) _ _ _ _ _ (fun s => sum_real _ _ (fun k => code_real _ _) (fun k => code_real _ _)) (fun s => ?_) (fun s => code_real _ _)
    (scale_pos (by norm_num) _ fun _ => h0 _) ?_
  · obtain ⟨r, _, hr⟩ := scale_pos (by norm_num) (kRow X1 b e s) fun _ => h1 _
    exact ⟨r, hr⟩
  · obtain ⟨r, _, hr⟩ := scale_pos (by norm_num) (vCol X2 b e d) fun _ => h2 _
    exact ⟨r, hr⟩

end Cert.Values

end
-- ==== Proof.Algebraic.lean ====
/- The value claim: over the extended reals, from finite arguments, the kernel and the reference end with equal results. -/
module

public import proofs.«01_k».proof.Defs
public import proofs.«01_k».proof.Proof.Values
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite

@[expose] public section

noncomputable section

namespace Cert.Values

open Idealize.ShloMosaic Idealize.ShloMosaic.TcCoe Idealize.SL.Sem
open Cert.Scalar Cert.KI

/-- The precondition's comparison, true of a number, bounds its magnitude. -/
theorem fin_of (x : EReal)
    (h : BitVec.ofBool (decide (max x (-x) ≤ Ideal.ofBits .f32 0x7F7F0000#32)) = 1#1) : Fin16 x := by
  rw [bound_bits] at h
  unfold Fin16
  by_contra hc
  rw [decide_eq_false hc] at h
  exact absurd h (by decide)

/-- The precondition makes every element of the three arguments finite. -/
theorem finite_args (X0 : FVec Ideal Cert.KernelIdeal.S3x512x5120 .bf16) (X1 X2 : FVec Ideal Cert.KernelIdeal.S3x512x512 .bf16)
    (h : (Cert.Pre_finite.fn (F := Ideal) X0 X1 X2).1 = (fun _ => 1#1) ∧ (Cert.Pre_finite.fn (F := Ideal) X0 X1 X2).2.1 = (fun _ => 1#1)
      ∧ (Cert.Pre_finite.fn (F := Ideal) X0 X1 X2).2.2 = (fun _ => 1#1)) :
    (∀ i, Fin16 (X0 i)) ∧ (∀ i, Fin16 (X1 i)) ∧ (∀ i, Fin16 (X2 i)) :=
  ⟨fun i => fin_of _ (congrFun h.1 i), fun i => fin_of _ (congrFun h.2.1 i), fun i => fin_of _ (congrFun h.2.2 i)⟩

open Cert.ReferenceIdeal.Read in
/-- The reference over the extended reals runs to its end, its seven results these functions of its arguments and the arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v116) = val_main_v116 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v118) = val_main_v118 (F := Ideal) (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_v119) = val_main_v119 (F := Ideal) (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_v121) = val_main_v121 (F := Ideal) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v122) = val_main_v122 (F := Ideal) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v124) = val_main_v124 (F := Ideal) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v70) = val_main_v70 (F := Ideal) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
  refine (θ_run Cert.ReferenceIdeal.defs _ _).mono (fun r h c => ?_) (Cert.ReferenceIdeal.Value.run (F := Ideal) m ρ)
  obtain ⟨h0, h1, h2, h3, h4, h5, h6, h7⟩ := h c
  exact ⟨h0.trans (val_main_v116_eq m c), h1.trans (val_main_v118_eq _), h2.trans (val_main_v119_eq _), h3.trans (val_main_v121_eq _),
    h4.trans (val_main_v122_eq _), h5.trans (val_main_v124_eq _), h6.trans (val_main_v70_eq _), h7⟩

/-- Over the extended reals, from finite arguments, all seven results of the kernel equal the reference's. -/
theorem algebraic : Cert.algebraic_KernelIdeal_ReferenceIdeal_pre_finite := by
  intro m g m' g' hpre hargs
  refine ⟨_, _, _, _, _, _, _, Cert.KI.run m g, (θ_run Cert.ReferenceIdeal.defs _ _).mono (fun r h c => ?_) (ref_run m' g')⟩
  obtain ⟨a0, a1, a2⟩ := hargs c
  obtain ⟨f0, f1, f2⟩ := finite_args _ _ _ (hpre c)
  obtain ⟨h0, h1, h2, h3, h4, h5, h6, h7⟩ := h c
  rw [a0, a1, a2] at h0
  rw [a0] at h1 h2
  rw [a1] at h3 h4
  rw [a2] at h5 h6
  exact ⟨h0.trans (out_eq _ _ _ f0 f1 f2).symm, h1.trans (qC_eq _ f0).symm, h2.trans (qS_eq _ f0).symm, h3.trans (kC_eq _ f1).symm,
    h4.trans (kS_eq _ f1).symm, h5.trans (vC_eq _ f2).symm, h6.trans (vS_eq _ f2).symm, h7⟩

end Cert.Values

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.KFrame
public import proofs.«01_k».proof.Proof.Dat
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem

/-- `Cert.Claim`: the frames of the kernel at the hardware's floats and over the extended reals, the frame of the
    reference, the one constant that idealization names, and the equality of all seven results over the extended
    reals from finite arguments. -/
theorem claim : Cert.Claim := ⟨Cert.Kernel.Gen.facts, Cert.KernelIdeal.Gen.facts, Cert.ReferenceIdeal.Gen.facts, Cert.Pre_finite.Gen.facts,
  fun m ρ _ => Cert.K.frame m ρ,
  fun m ρ _ => Cert.KI.frame m ρ,
  fun m ρ _ => Cert.KI.frame m ρ,
  fun m ρ _ => Cert.RefFrame.frame m ρ,
  fun m ρ _ => Cert.RefFrame.frame m ρ,
  IdealRules.named_const.statement Cert.KernelIdeal.κ "eighth_log2e" .f32 0x3E38AA3B#32 (((1 / 8) * (Real.log 2)⁻¹ : ℝ) : EReal) rfl,
  Cert.Values.algebraic⟩

end Cert.Proof

end
